-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![32768, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S2x3x2048x512 : Shape := ⟨4, ![2, 3, 2048, 512]⟩
abbrev S2x6x4 : Shape := ⟨3, ![2, 6, 4]⟩
abbrev S2x3 : Shape := ⟨2, ![2, 3]⟩
abbrev S2x4x4 : Shape := ⟨3, ![2, 4, 4]⟩
abbrev S_ : Shape := ⟨0, ![]⟩
abbrev S1x1 : Shape := ⟨2, ![1, 1]⟩
abbrev S1x1x2048x512 : Shape := ⟨4, ![1, 1, 2048, 512]⟩
abbrev S2048x512 : Shape := ⟨2, ![2048, 512]⟩
abbrev S1x1x1 : Shape := ⟨3, ![1, 1, 1]⟩
abbrev S512x512 : Shape := ⟨2, ![512, 512]⟩
abbrev S1x1x512x512 : Shape := ⟨4, ![1, 1, 512, 512]⟩

abbrev nBuf : Space → Nat
  | .hbm => 2
  | .vmem => 2
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .local _ .vmem, ⟨0, _⟩ => ⟨S8192x1024, .f32⟩
  | .local _ .vmem, ⟨1, _⟩ => ⟨S2x3x2048x512, .f32⟩
  | _, _ => ⟨S8192x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) (c1_i32_19 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v30 : BitVec 32 := Scalar.subi v2 c1_i32_19
  let c4_i32_20 : BitVec 32 := 4#32
  let c0_i32_21 : BitVec 32 := 0#32
  let v31 : BitVec 1 := Scalar.cmpi .eq c4_i32_20 c0_i32_21
  let c1_i32_22 : BitVec 32 := 1#32
  let v32 : BitVec 32 := Scalar.select v31 c1_i32_22 c4_i32_20
  let v33 : BitVec 32 := Scalar.remsi v30 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c2048_i32 : BitVec 32 := 2048#32
  let v41 : BitVec 32 := Scalar.muli v40 c2048_i32
  let c0_i32_32 : BitVec 32 := 0#32
  ![v41.toNat, 0]
def k0_off2 (d0 : Dev nD) (c_m1_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : BitVec 32 := Scalar.subi v2 c_m1_i32
  let c4_i32_62 : BitVec 32 := 4#32
  let c0_i32_63 : BitVec 32 := 0#32
  let v82 : BitVec 1 := Scalar.cmpi .eq c4_i32_62 c0_i32_63
  let c1_i32_64 : BitVec 32 := 1#32
  let v83 : BitVec 32 := Scalar.select v82 c1_i32_64 c4_i32_62
  let v84 : BitVec 32 := Scalar.remsi v81 v83
  let c0_i32_66 : BitVec 32 := 0#32
  let v86 : BitVec 1 := Scalar.cmpi .slt v84 c0_i32_66
  let c0_i32_67 : BitVec 32 := 0#32
  let v87 : BitVec 1 := Scalar.cmpi .slt v83 c0_i32_67
  let v88 : BitVec 1 := Scalar.xori v86 v87
  let c0_i32_65 : BitVec 32 := 0#32
  let v85 : BitVec 1 := Scalar.cmpi .ne v84 c0_i32_65
  let v89 : BitVec 1 := Scalar.andi v88 v85
  let v90 : BitVec 32 := Scalar.addi v84 v83
  let v91 : BitVec 32 := Scalar.select v89 v90 v84
  let c2048_i32_68 : BitVec 32 := 2048#32
  let v92 : BitVec 32 := Scalar.muli v91 c2048_i32_68
  let c512_i32 : BitVec 32 := 512#32
  ![v92.toNat, 512]
def k0_off3 (d0 : Dev nD) (c0_i32_103 : BitVec 32) (c0_i32_113 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v132 : BitVec 32 := Scalar.subi v2 c0_i32_103
  let c4_i32_104 : BitVec 32 := 4#32
  let c0_i32_105 : BitVec 32 := 0#32
  let v133 : BitVec 1 := Scalar.cmpi .eq c4_i32_104 c0_i32_105
  let c1_i32_106 : BitVec 32 := 1#32
  let v134 : BitVec 32 := Scalar.select v133 c1_i32_106 c4_i32_104
  let v135 : BitVec 32 := Scalar.remsi v132 v134
  let c0_i32_108 : BitVec 32 := 0#32
  let v137 : BitVec 1 := Scalar.cmpi .slt v135 c0_i32_108
  let c0_i32_109 : BitVec 32 := 0#32
  let v138 : BitVec 1 := Scalar.cmpi .slt v134 c0_i32_109
  let v139 : BitVec 1 := Scalar.xori v137 v138
  let c0_i32_107 : BitVec 32 := 0#32
  let v136 : BitVec 1 := Scalar.cmpi .ne v135 c0_i32_107
  let v140 : BitVec 1 := Scalar.andi v139 v136
  let v141 : BitVec 32 := Scalar.addi v135 v134
  let v142 : BitVec 32 := Scalar.select v140 v141 v135
  let c2048_i32_112 : BitVec 32 := 2048#32
  let v145 : BitVec 32 := Scalar.muli v142 c2048_i32_112
  let v146 : BitVec 32 := Scalar.addi v145 c0_i32_113
  let c0_i32_122 : BitVec 32 := 0#32
  ![v146.toNat, 0]
def k0_off3_at (r : Fin 20) : BitVec 32 × BitVec 32 :=
  if r.val < 10 then
    if r.val < 5 then
      if r.val < 2 then
        if r.val < 1 then
          (0#32, 0#32)
        else
          (0#32, 512#32)
      else
        if r.val < 3 then
          (0#32, 1024#32)
        else
          if r.val < 4 then
            (0#32, 1536#32)
          else
            (1#32, 0#32)
    else
      if r.val < 7 then
        if r.val < 6 then
          (1#32, 512#32)
        else
          (1#32, 1024#32)
      else
        if r.val < 8 then
          (1#32, 1536#32)
        else
          if r.val < 9 then
            (2#32, 0#32)
          else
            (2#32, 512#32)
  else
    if r.val < 15 then
      if r.val < 12 then
        if r.val < 11 then
          (2#32, 1024#32)
        else
          (2#32, 1536#32)
      else
        if r.val < 13 then
          (3#32, 0#32)
        else
          if r.val < 14 then
            (4294967295#32, 0#32)
          else
            (3#32, 512#32)
    else
      if r.val < 17 then
        if r.val < 16 then
          (4294967295#32, 512#32)
        else
          (3#32, 1024#32)
      else
        if r.val < 18 then
          (4294967295#32, 1024#32)
        else
          if r.val < 19 then
            (3#32, 1536#32)
          else
            (4294967295#32, 1536#32)
def k0_dev3 (d0 : Dev nD) : Nat :=
  let c0_i32_121 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_120 : BitVec 32 := 1#32
  let v147 : BitVec 32 := Scalar.muli v13 c1_i32_120
  let v148 : BitVec 32 := Scalar.addi c0_i32_121 v147
  v148.toNat
def k0_off4 (d0 : Dev nD) (c0_i32_124 : BitVec 32) (c0_i32_134 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v155 : BitVec 32 := Scalar.subi v2 c0_i32_124
  let c4_i32_125 : BitVec 32 := 4#32
  let c0_i32_126 : BitVec 32 := 0#32
  let v156 : BitVec 1 := Scalar.cmpi .eq c4_i32_125 c0_i32_126
  let c1_i32_127 : BitVec 32 := 1#32
  let v157 : BitVec 32 := Scalar.select v156 c1_i32_127 c4_i32_125
  let v158 : BitVec 32 := Scalar.remsi v155 v157
  let c0_i32_129 : BitVec 32 := 0#32
  let v160 : BitVec 1 := Scalar.cmpi .slt v158 c0_i32_129
  let c0_i32_130 : BitVec 32 := 0#32
  let v161 : BitVec 1 := Scalar.cmpi .slt v157 c0_i32_130
  let v162 : BitVec 1 := Scalar.xori v160 v161
  let c0_i32_128 : BitVec 32 := 0#32
  let v159 : BitVec 1 := Scalar.cmpi .ne v158 c0_i32_128
  let v163 : BitVec 1 := Scalar.andi v162 v159
  let v164 : BitVec 32 := Scalar.addi v158 v157
  let v165 : BitVec 32 := Scalar.select v163 v164 v158
  let c2048_i32_133 : BitVec 32 := 2048#32
  let v168 : BitVec 32 := Scalar.muli v165 c2048_i32_133
  let v169 : BitVec 32 := Scalar.addi v168 c0_i32_134
  let c512_i32_143 : BitVec 32 := 512#32
  ![v169.toNat, 512]
def k0_off4_at (r : Fin 20) : BitVec 32 × BitVec 32 :=
  if r.val < 10 then
    if r.val < 5 then
      if r.val < 2 then
        if r.val < 1 then
          (0#32, 0#32)
        else
          (0#32, 512#32)
      else
        if r.val < 3 then
          (0#32, 1024#32)
        else
          if r.val < 4 then
            (0#32, 1536#32)
          else
            (4294967295#32, 0#32)
    else
      if r.val < 7 then
        if r.val < 6 then
          (4294967295#32, 512#32)
        else
          (4294967295#32, 1024#32)
      else
        if r.val < 8 then
          (4294967295#32, 1536#32)
        else
          if r.val < 9 then
            (4294967294#32, 0#32)
          else
            (4294967294#32, 512#32)
  else
    if r.val < 15 then
      if r.val < 12 then
        if r.val < 11 then
          (4294967294#32, 1024#32)
        else
          (4294967294#32, 1536#32)
      else
        if r.val < 13 then
          (4294967293#32, 0#32)
        else
          if r.val < 14 then
            (1#32, 0#32)
          else
            (4294967293#32, 512#32)
    else
      if r.val < 17 then
        if r.val < 16 then
          (1#32, 512#32)
        else
          (4294967293#32, 1024#32)
      else
        if r.val < 18 then
          (1#32, 1024#32)
        else
          if r.val < 19 then
            (4294967293#32, 1536#32)
          else
            (1#32, 1536#32)
def k0_dev4 (d0 : Dev nD) : Nat :=
  let c0_i32_142 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_141 : BitVec 32 := 1#32
  let v170 : BitVec 32 := Scalar.muli v24 c1_i32_141
  let v171 : BitVec 32 := Scalar.addi c0_i32_142 v170
  v171.toNat
def k0_dev5 (d0 : Dev nD) : Nat :=
  let c0_i32_163 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_162 : BitVec 32 := 1#32
  let v193 : BitVec 32 := Scalar.muli v13 c1_i32_162
  let v194 : BitVec 32 := Scalar.addi c0_i32_163 v193
  v194.toNat
def k0_dev6 (d0 : Dev nD) : Nat :=
  let c0_i32_184 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_183 : BitVec 32 := 1#32
  let v216 : BitVec 32 := Scalar.muli v24 c1_i32_183
  let v217 : BitVec 32 := Scalar.addi c0_i32_184 v216
  v217.toNat
def k0_dev7 (d0 : Dev nD) : Nat :=
  let c0_i32_204 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_203 : BitVec 32 := 1#32
  let v239 : BitVec 32 := Scalar.muli v13 c1_i32_203
  let v240 : BitVec 32 := Scalar.addi c0_i32_204 v239
  v240.toNat
def k0_dev8 (d0 : Dev nD) : Nat :=
  let c0_i32_225 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_224 : BitVec 32 := 1#32
  let v262 : BitVec 32 := Scalar.muli v24 c1_i32_224
  let v263 : BitVec 32 := Scalar.addi c0_i32_225 v262
  v263.toNat
def k0_dev9 (d0 : Dev nD) : Nat :=
  let c0_i32_245 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_244 : BitVec 32 := 1#32
  let v285 : BitVec 32 := Scalar.muli v13 c1_i32_244
  let v286 : BitVec 32 := Scalar.addi c0_i32_245 v285
  v286.toNat
def k0_dev10 (d0 : Dev nD) : Nat :=
  let c0_i32_266 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_265 : BitVec 32 := 1#32
  let v308 : BitVec 32 := Scalar.muli v24 c1_i32_265
  let v309 : BitVec 32 := Scalar.addi c0_i32_266 v308
  v309.toNat
def k0_off5 (d0 : Dev nD) (c1_i32_304 : BitVec 32) (c0_i32_312 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v347 : BitVec 32 := Scalar.subi v2 c1_i32_304
  let c4_i32_305 : BitVec 32 := 4#32
  let c0_i32_306 : BitVec 32 := 0#32
  let v348 : BitVec 1 := Scalar.cmpi .eq c4_i32_305 c0_i32_306
  let c1_i32_307 : BitVec 32 := 1#32
  let v349 : BitVec 32 := Scalar.select v348 c1_i32_307 c4_i32_305
  let v350 : BitVec 32 := Scalar.remsi v347 v349
  let c0_i32_309 : BitVec 32 := 0#32
  let v352 : BitVec 1 := Scalar.cmpi .slt v350 c0_i32_309
  let c0_i32_310 : BitVec 32 := 0#32
  let v353 : BitVec 1 := Scalar.cmpi .slt v349 c0_i32_310
  let v354 : BitVec 1 := Scalar.xori v352 v353
  let c0_i32_308 : BitVec 32 := 0#32
  let v351 : BitVec 1 := Scalar.cmpi .ne v350 c0_i32_308
  let v355 : BitVec 1 := Scalar.andi v354 v351
  let v356 : BitVec 32 := Scalar.addi v350 v349
  let v357 : BitVec 32 := Scalar.select v355 v356 v350
  let c2048_i32_311 : BitVec 32 := 2048#32
  let v358 : BitVec 32 := Scalar.muli v357 c2048_i32_311
  let v359 : BitVec 32 := Scalar.addi v358 c0_i32_312
  let v360 : Index := Scalar.indexCast v359
  let c0 : Index := 0#32
  ![v360.toNat, 0]
def k0_dev11 (d0 : Dev nD) : Nat :=
  let c0_i32_338 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_337 : BitVec 32 := 1#32
  let v386 : BitVec 32 := Scalar.muli v13 c1_i32_337
  let v387 : BitVec 32 := Scalar.addi c0_i32_338 v386
  v387.toNat
def k0_off6 (d0 : Dev nD) (c_m1_i32_362 : BitVec 32) (c0_i32_370 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v415 : BitVec 32 := Scalar.subi v2 c_m1_i32_362
  let c4_i32_363 : BitVec 32 := 4#32
  let c0_i32_364 : BitVec 32 := 0#32
  let v416 : BitVec 1 := Scalar.cmpi .eq c4_i32_363 c0_i32_364
  let c1_i32_365 : BitVec 32 := 1#32
  let v417 : BitVec 32 := Scalar.select v416 c1_i32_365 c4_i32_363
  let v418 : BitVec 32 := Scalar.remsi v415 v417
  let c0_i32_367 : BitVec 32 := 0#32
  let v420 : BitVec 1 := Scalar.cmpi .slt v418 c0_i32_367
  let c0_i32_368 : BitVec 32 := 0#32
  let v421 : BitVec 1 := Scalar.cmpi .slt v417 c0_i32_368
  let v422 : BitVec 1 := Scalar.xori v420 v421
  let c0_i32_366 : BitVec 32 := 0#32
  let v419 : BitVec 1 := Scalar.cmpi .ne v418 c0_i32_366
  let v423 : BitVec 1 := Scalar.andi v422 v419
  let v424 : BitVec 32 := Scalar.addi v418 v417
  let v425 : BitVec 32 := Scalar.select v423 v424 v418
  let c2048_i32_369 : BitVec 32 := 2048#32
  let v426 : BitVec 32 := Scalar.muli v425 c2048_i32_369
  let v427 : BitVec 32 := Scalar.addi v426 c0_i32_370
  let v428 : Index := Scalar.indexCast v427
  let c512 : Index := 512#32
  ![v428.toNat, 512]
def k0_dev12 (d0 : Dev nD) : Nat :=
  let c0_i32_395 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_394 : BitVec 32 := 1#32
  let v454 : BitVec 32 := Scalar.muli v24 c1_i32_394
  let v455 : BitVec 32 := Scalar.addi c0_i32_395 v454
  v455.toNat
def k0_dev13 (d0 : Dev nD) : Nat :=
  let c0_i32_454 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_453 : BitVec 32 := 1#32
  let v522 : BitVec 32 := Scalar.muli v13 c1_i32_453
  let v523 : BitVec 32 := Scalar.addi c0_i32_454 v522
  v523.toNat
def k0_dev14 (d0 : Dev nD) : Nat :=
  let c0_i32_513 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_512 : BitVec 32 := 1#32
  let v590 : BitVec 32 := Scalar.muli v24 c1_i32_512
  let v591 : BitVec 32 := Scalar.addi c0_i32_513 v590
  v591.toNat
def k0_dev15 (d0 : Dev nD) : Nat :=
  let c0_i32_571 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_570 : BitVec 32 := 1#32
  let v658 : BitVec 32 := Scalar.muli v13 c1_i32_570
  let v659 : BitVec 32 := Scalar.addi c0_i32_571 v658
  v659.toNat
def k0_dev16 (d0 : Dev nD) : Nat :=
  let c0_i32_630 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_629 : BitVec 32 := 1#32
  let v726 : BitVec 32 := Scalar.muli v24 c1_i32_629
  let v727 : BitVec 32 := Scalar.addi c0_i32_630 v726
  v727.toNat
def k0_dev17 (d0 : Dev nD) : Nat :=
  let c0_i32_688 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_687 : BitVec 32 := 1#32
  let v794 : BitVec 32 := Scalar.muli v13 c1_i32_687
  let v795 : BitVec 32 := Scalar.addi c0_i32_688 v794
  v795.toNat
def k0_dev18 (d0 : Dev nD) : Nat :=
  let c0_i32_747 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_746 : BitVec 32 := 1#32
  let v862 : BitVec 32 := Scalar.muli v24 c1_i32_746
  let v863 : BitVec 32 := Scalar.addi c0_i32_747 v862
  v863.toNat
def k0_dev19 (d0 : Dev nD) : Nat :=
  let c0_i32_820 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_819 : BitVec 32 := 1#32
  let v940 : BitVec 32 := Scalar.muli v13 c1_i32_819
  let v941 : BitVec 32 := Scalar.addi c0_i32_820 v940
  v941.toNat
def k0_dev20 (d0 : Dev nD) : Nat :=
  let c0_i32_879 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_878 : BitVec 32 := 1#32
  let v1008 : BitVec 32 := Scalar.muli v24 c1_i32_878
  let v1009 : BitVec 32 := Scalar.addi c0_i32_879 v1008
  v1009.toNat
def k0_dev21 (d0 : Dev nD) : Nat :=
  let c0_i32_938 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_937 : BitVec 32 := 1#32
  let v1076 : BitVec 32 := Scalar.muli v13 c1_i32_937
  let v1077 : BitVec 32 := Scalar.addi c0_i32_938 v1076
  v1077.toNat
def k0_dev22 (d0 : Dev nD) : Nat :=
  let c0_i32_997 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_996 : BitVec 32 := 1#32
  let v1144 : BitVec 32 := Scalar.muli v24 c1_i32_996
  let v1145 : BitVec 32 := Scalar.addi c0_i32_997 v1144
  v1145.toNat
def k0_dev23 (d0 : Dev nD) : Nat :=
  let c0_i32_1056 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1055 : BitVec 32 := 1#32
  let v1212 : BitVec 32 := Scalar.muli v13 c1_i32_1055
  let v1213 : BitVec 32 := Scalar.addi c0_i32_1056 v1212
  v1213.toNat
def k0_dev24 (d0 : Dev nD) : Nat :=
  let c0_i32_1115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1114 : BitVec 32 := 1#32
  let v1280 : BitVec 32 := Scalar.muli v24 c1_i32_1114
  let v1281 : BitVec 32 := Scalar.addi c0_i32_1115 v1280
  v1281.toNat
def k0_dev25 (d0 : Dev nD) : Nat :=
  let c0_i32_1174 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1173 : BitVec 32 := 1#32
  let v1348 : BitVec 32 := Scalar.muli v13 c1_i32_1173
  let v1349 : BitVec 32 := Scalar.addi c0_i32_1174 v1348
  v1349.toNat
def k0_dev26 (d0 : Dev nD) : Nat :=
  let c0_i32_1233 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1232 : BitVec 32 := 1#32
  let v1416 : BitVec 32 := Scalar.muli v24 c1_i32_1232
  let v1417 : BitVec 32 := Scalar.addi c0_i32_1233 v1416
  v1417.toNat
def k0_dev27 (d0 : Dev nD) : Nat :=
  let c0_i32_1314 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1313 : BitVec 32 := 1#32
  let v1502 : BitVec 32 := Scalar.muli v13 c1_i32_1313
  let v1503 : BitVec 32 := Scalar.addi c0_i32_1314 v1502
  v1503.toNat
def k0_dev28 (d0 : Dev nD) : Nat :=
  let c0_i32_1382 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1381 : BitVec 32 := 1#32
  let v1578 : BitVec 32 := Scalar.muli v24 c1_i32_1381
  let v1579 : BitVec 32 := Scalar.addi c0_i32_1382 v1578
  v1579.toNat
def k0_dev29 (d0 : Dev nD) : Nat :=
  let c0_i32_1450 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1449 : BitVec 32 := 1#32
  let v1654 : BitVec 32 := Scalar.muli v13 c1_i32_1449
  let v1655 : BitVec 32 := Scalar.addi c0_i32_1450 v1654
  v1655.toNat
def k0_dev30 (d0 : Dev nD) : Nat :=
  let c0_i32_1518 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1517 : BitVec 32 := 1#32
  let v1730 : BitVec 32 := Scalar.muli v24 c1_i32_1517
  let v1731 : BitVec 32 := Scalar.addi c0_i32_1518 v1730
  v1731.toNat
def k0_dev31 (d0 : Dev nD) : Nat :=
  let c0_i32_1586 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1585 : BitVec 32 := 1#32
  let v1806 : BitVec 32 := Scalar.muli v13 c1_i32_1585
  let v1807 : BitVec 32 := Scalar.addi c0_i32_1586 v1806
  v1807.toNat
def k0_dev32 (d0 : Dev nD) : Nat :=
  let c0_i32_1654 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1653 : BitVec 32 := 1#32
  let v1882 : BitVec 32 := Scalar.muli v24 c1_i32_1653
  let v1883 : BitVec 32 := Scalar.addi c0_i32_1654 v1882
  v1883.toNat
def k0_dev33 (d0 : Dev nD) : Nat :=
  let c0_i32_1722 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1721 : BitVec 32 := 1#32
  let v1958 : BitVec 32 := Scalar.muli v13 c1_i32_1721
  let v1959 : BitVec 32 := Scalar.addi c0_i32_1722 v1958
  v1959.toNat
def k0_dev34 (d0 : Dev nD) : Nat :=
  let c0_i32_1790 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1789 : BitVec 32 := 1#32
  let v2034 : BitVec 32 := Scalar.muli v24 c1_i32_1789
  let v2035 : BitVec 32 := Scalar.addi c0_i32_1790 v2034
  v2035.toNat
def k0_dev35 (d0 : Dev nD) : Nat :=
  let c0_i32_1848 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1847 : BitVec 32 := 1#32
  let v2097 : BitVec 32 := Scalar.muli v13 c1_i32_1847
  let v2098 : BitVec 32 := Scalar.addi c0_i32_1848 v2097
  v2098.toNat
def k0_dev36 (d0 : Dev nD) : Nat :=
  let c0_i32_1906 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1905 : BitVec 32 := 1#32
  let v2160 : BitVec 32 := Scalar.muli v24 c1_i32_1905
  let v2161 : BitVec 32 := Scalar.addi c0_i32_1906 v2160
  v2161.toNat
def k0_dev37 (d0 : Dev nD) : Nat :=
  let c0_i32_1964 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1963 : BitVec 32 := 1#32
  let v2223 : BitVec 32 := Scalar.muli v13 c1_i32_1963
  let v2224 : BitVec 32 := Scalar.addi c0_i32_1964 v2223
  v2224.toNat
def k0_dev38 (d0 : Dev nD) : Nat :=
  let c0_i32_2022 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2021 : BitVec 32 := 1#32
  let v2286 : BitVec 32 := Scalar.muli v24 c1_i32_2021
  let v2287 : BitVec 32 := Scalar.addi c0_i32_2022 v2286
  v2287.toNat
def k0_dev39 (d0 : Dev nD) : Nat :=
  let c0_i32_2080 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2079 : BitVec 32 := 1#32
  let v2349 : BitVec 32 := Scalar.muli v13 c1_i32_2079
  let v2350 : BitVec 32 := Scalar.addi c0_i32_2080 v2349
  v2350.toNat
def k0_dev40 (d0 : Dev nD) : Nat :=
  let c0_i32_2138 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2137 : BitVec 32 := 1#32
  let v2412 : BitVec 32 := Scalar.muli v24 c1_i32_2137
  let v2413 : BitVec 32 := Scalar.addi c0_i32_2138 v2412
  v2413.toNat
def k0_dev41 (d0 : Dev nD) : Nat :=
  let c0_i32_2196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2195 : BitVec 32 := 1#32
  let v2475 : BitVec 32 := Scalar.muli v13 c1_i32_2195
  let v2476 : BitVec 32 := Scalar.addi c0_i32_2196 v2475
  v2476.toNat
def k0_dev42 (d0 : Dev nD) : Nat :=
  let c0_i32_2254 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2253 : BitVec 32 := 1#32
  let v2538 : BitVec 32 := Scalar.muli v24 c1_i32_2253
  let v2539 : BitVec 32 := Scalar.addi c0_i32_2254 v2538
  v2539.toNat
def k0_dev43 (d0 : Dev nD) : Nat :=
  let c0_i32_2311 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2310 : BitVec 32 := 1#32
  let v2601 : BitVec 32 := Scalar.muli v13 c1_i32_2310
  let v2602 : BitVec 32 := Scalar.addi c0_i32_2311 v2601
  v2602.toNat
def k0_dev44 (d0 : Dev nD) : Nat :=
  let c0_i32_2369 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2368 : BitVec 32 := 1#32
  let v2664 : BitVec 32 := Scalar.muli v24 c1_i32_2368
  let v2665 : BitVec 32 := Scalar.addi c0_i32_2369 v2664
  v2665.toNat
def k0_dev45 (d0 : Dev nD) : Nat :=
  let c0_i32_2427 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2426 : BitVec 32 := 1#32
  let v2727 : BitVec 32 := Scalar.muli v13 c1_i32_2426
  let v2728 : BitVec 32 := Scalar.addi c0_i32_2427 v2727
  v2728.toNat
def k0_dev46 (d0 : Dev nD) : Nat :=
  let c0_i32_2485 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2484 : BitVec 32 := 1#32
  let v2790 : BitVec 32 := Scalar.muli v24 c1_i32_2484
  let v2791 : BitVec 32 := Scalar.addi c0_i32_2485 v2790
  v2791.toNat
def k0_dev47 (d0 : Dev nD) : Nat :=
  let c0_i32_2543 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2542 : BitVec 32 := 1#32
  let v2853 : BitVec 32 := Scalar.muli v13 c1_i32_2542
  let v2854 : BitVec 32 := Scalar.addi c0_i32_2543 v2853
  v2854.toNat
def k0_dev48 (d0 : Dev nD) : Nat :=
  let c0_i32_2601 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2600 : BitVec 32 := 1#32
  let v2916 : BitVec 32 := Scalar.muli v24 c1_i32_2600
  let v2917 : BitVec 32 := Scalar.addi c0_i32_2601 v2916
  v2917.toNat
def k0_dev49 (d0 : Dev nD) : Nat :=
  let c0_i32_2659 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2658 : BitVec 32 := 1#32
  let v2979 : BitVec 32 := Scalar.muli v13 c1_i32_2658
  let v2980 : BitVec 32 := Scalar.addi c0_i32_2659 v2979
  v2980.toNat
def k0_dev50 (d0 : Dev nD) : Nat :=
  let c0_i32_2717 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2716 : BitVec 32 := 1#32
  let v3042 : BitVec 32 := Scalar.muli v24 c1_i32_2716
  let v3043 : BitVec 32 := Scalar.addi c0_i32_2717 v3042
  v3043.toNat
-- ==== ReferenceIdeal.lean ====
abbrev S32768x1024 : Shape := ⟨2, ![32768, 1024]⟩
abbrev S4x8192x1024 : Shape := ⟨3, ![4, 8192, 1024]⟩
abbrev S_ : Shape := ⟨0, ![]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x8192x1024, .f32⟩
  | .hbm, ⟨2, _⟩ => ⟨S_, .f32⟩
  | .hbm, ⟨3, _⟩ => ⟨S8192x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Prog.lean ====
/-
  The kernel's body written as loops.

  The printed body is one long straight line of statements. Here the same statements are written as the source has
  them: loops over the row blocks and the two directions, each step a short sequence of memory operations. `body_eq`
  says the two are the same program.
-/
module

public import proofs.«01_k».proof.Proof.Gen.KernelIdeal.Frame
public import Idealize.ShloMosaic.Lib.Pipeline.Regions

@[expose] public section

set_option maxRecDepth 65536

noncomputable section

namespace Cert.KernelIdeal.Hop

open Idealize.ShloMosaic Idealize.ShloMosaic.TcCoe Idealize.SL.Sem
open Cert.KernelIdeal Cert.KernelIdeal.Gen

variable {F : FTy → Type} [FloatOps F]

/-- The kernel's programs. -/
abbrev Pg (F : FTy → Type) (α : Type) := Prog (TpuEff nD τ sig (Elt F) Λ₀ .tc) α

/-- A lane: the row block inside a chunk, and the direction (0 sends to the right, 1 to the left). -/
abbrev Lane := Fin 4 × Fin 2

/-- The lanes in the order the kernel visits them. -/
def lanes : List Lane := [(0, 0), (0, 1), (1, 0), (1, 1), (2, 0), (2, 1), (3, 0), (3, 1)]

/-- Run `f` on every member of a list, in order. -/
def each {A : Type} (f : A → Pg F PUnit) : List A → Pg F PUnit
  | [] => .ret ⟨⟩
  | x :: l => (f x).bind fun _ => each f l

/-! ## Offsets -/

/-- A corner of a 512×512 block of the 8192×1024 arrays. -/
abbrev Sec := { o : Fin 2 → Nat // ∀ a, o a + S512x512.size a ≤ S8192x1024.size a }
/-- A corner of a 2048×512 block of the 8192×1024 arrays. -/
abbrev Sec4 := { o : Fin 2 → Nat // ∀ a, o a + S2048x512.size a ≤ S8192x1024.size a }

/-- The word by which the chunk sent at hop `h` lies behind the device. -/
def sendW : Fin 2 → Nat → BitVec 32
  | 0, 0 => 0#32 | 0, 1 => 1#32 | 0, 2 => 2#32 | 0, 3 => 4294967295#32 | 0, 4 => 0#32 | 0, _ => 1#32
  | 1, 0 => 0#32 | 1, 1 => 4294967295#32 | 1, 2 => 4294967294#32 | 1, 3 => 1#32 | 1, 4 => 0#32 | 1, _ => 4294967295#32
/-- The word by which the chunk received at hop `g` lies behind the device. -/
def recvW : Fin 2 → Nat → BitVec 32
  | 0, 0 => 1#32 | 0, 1 => 2#32 | 0, 2 => 3#32 | 0, 3 => 0#32 | 0, 4 => 1#32 | 0, _ => 2#32
  | 1, 0 => 4294967295#32 | 1, 1 => 4294967294#32 | 1, 2 => 4294967293#32 | 1, 3 => 0#32 | 1, 4 => 4294967295#32 | 1, _ => 4294967294#32
/-- The row offset of a row block. -/
def rowW : Fin 4 → BitVec 32
  | 0 => 0#32 | 1 => 512#32 | 2 => 1024#32 | 3 => 1536#32

/-- The printed offsets of the transfers, by direction. -/
def offW : Fin 2 → Dev nD → BitVec 32 → BitVec 32 → Fin 2 → Nat
  | 0, c, w, r => k0_off3 c w r
  | 1, c, w, r => k0_off4 c w r
/-- The printed offsets of the loads and stores, by direction. -/
def ldW : Fin 2 → Dev nD → BitVec 32 → BitVec 32 → Fin 2 → Nat
  | 0, c, w, r => k0_off5 c w r
  | 1, c, w, r => k0_off6 c w r
/-- The printed offsets of the stage copies, by direction. -/
def stW : Fin 2 → Dev nD → BitVec 32 → Fin 2 → Nat
  | 0, c, w => k0_off1 c w
  | 1, c, w => k0_off2 c w

/-- The block at `(chunk, direction, row block)`, in closed form. -/
def blkOff (k : Fin 4) (x : Lane) : Fin 2 → Nat := ![2048 * k.val + 512 * x.1.val, 512 * x.2.val]
/-- The half chunk at `(chunk, direction)`, in closed form. -/
def halfOff (k : Fin 4) (d : Fin 2) : Fin 2 → Nat := ![2048 * k.val, 512 * d.val]

/-- The block at `(chunk, lane)` lies inside the array. -/
theorem blkOff_inb (k : Fin 4) (x : Lane) : ∀ a, blkOff k x a + S512x512.size a ≤ S8192x1024.size a := by
  revert k x; decide +kernel
/-- The half chunk lies inside the array. -/
theorem halfOff_inb (k : Fin 4) (d : Fin 2) : ∀ a, halfOff k d a + S2048x512.size a ≤ S8192x1024.size a := by
  revert k d; decide +kernel
/-- The block at `(chunk, lane)`. -/
def blk (k : Fin 4) (x : Lane) : Sec := ⟨blkOff k x, blkOff_inb k x⟩
/-- The half chunk at `(chunk, direction)`. -/
def half (k : Fin 4) (d : Fin 2) : Sec4 := ⟨halfOff k d, halfOff_inb k d⟩

/-- The chunk direction `d` sends at hop `h` from device `c`. -/
def sendC (d : Fin 2) (c : Dev nD) (h : Nat) : Fin 4 := c - (BitVec.toFin ((sendW d h).setWidth 2) : Fin 4)
/-- The chunk direction `d` receives at hop `g` on device `c`. -/
def recvC (d : Fin 2) (c : Dev nD) (g : Nat) : Fin 4 := c - (BitVec.toFin ((recvW d g).setWidth 2) : Fin 4)

theorem offW_send (c : Dev nD) (h : Fin 6) (x : Lane) : offW x.2 c (sendW x.2 h) (rowW x.1) = blkOff (sendC x.2 c h) x := by
  revert c h x; decide +kernel
theorem offW_recv (c : Dev nD) (h : Fin 6) (x : Lane) : offW x.2 c (recvW x.2 h) (rowW x.1) = blkOff (recvC x.2 c h) x := by
  revert c h x; decide +kernel
theorem ldW_recv (c : Dev nD) (h : Fin 3) (x : Lane) : ldW x.2 c (recvW x.2 h) (rowW x.1) = blkOff (recvC x.2 c h) x := by
  revert c h x; decide +kernel
theorem stW_recv (c : Dev nD) (h : Fin 3) (d : Fin 2) : stW d c (recvW d h) = halfOff (recvC d c h) d := by
  revert c h d; decide +kernel

/-- The block sent at hop `h`, as printed. -/
def sendO (c : Dev nD) (h : Fin 6) (x : Lane) : Sec := ⟨offW x.2 c (sendW x.2 h) (rowW x.1), offW_send c h x ▸ blkOff_inb _ _⟩
/-- The block received at hop `h`, as printed. -/
def recvO (c : Dev nD) (h : Fin 6) (x : Lane) : Sec := ⟨offW x.2 c (recvW x.2 h) (rowW x.1), offW_recv c h x ▸ blkOff_inb _ _⟩
/-- The block added into at hop `h`, as printed. -/
def ldO (c : Dev nD) (h : Fin 3) (x : Lane) : Sec := ⟨ldW x.2 c (recvW x.2 h) (rowW x.1), ldW_recv c h x ▸ blkOff_inb _ _⟩
/-- The half chunk staged for hop `h`, as printed. -/
def stO (c : Dev nD) (h : Fin 3) (d : Fin 2) : Sec4 := ⟨stW d c (recvW d h), stW_recv c h d ▸ halfOff_inb _ _⟩

theorem sendO_eq (c : Dev nD) (h : Fin 6) (x : Lane) : sendO c h x = blk (sendC x.2 c h) x := Subtype.ext (offW_send c h x)
theorem recvO_eq (c : Dev nD) (h : Fin 6) (x : Lane) : recvO c h x = blk (recvC x.2 c h) x := Subtype.ext (offW_recv c h x)
theorem ldO_eq (c : Dev nD) (h : Fin 3) (x : Lane) : ldO c h x = blk (recvC x.2 c h) x := Subtype.ext (ldW_recv c h x)
theorem stO_eq (c : Dev nD) (h : Fin 3) (d : Fin 2) : stO c h d = half (recvC d c h) d := Subtype.ext (stW_recv c h d)

/-- The device direction `d` sends to, as printed. -/
def dst : Fin 2 → Dev nD → Dev nD
  | 0, c => ⟨k0_dev1 c, k0_dev1_lt c⟩
  | 1, c => ⟨k0_dev2 c, k0_dev2_lt c⟩

/-! ## Memrefs and semaphores -/

abbrev xM : Memref sig .tc .hbm S8192x1024 .f32 := Memref.whole main_arg0
abbrev oM : Memref sig .tc .hbm S8192x1024 .f32 := Memref.whole main_v1
abbrev bM : Memref sig .tc .vmem S8192x1024 .f32 := Memref.whole cc0_scratch0
abbrev sM : Memref sig .tc .vmem S2x3x2048x512 .f32 := Memref.whole cc0_scratch1

/-- A 512×512 block of a whole array's memref. -/
abbrev cut {sp : Space} (m : Memref sig .tc sp S8192x1024 .f32) (o : Sec) : Memref sig .tc sp S512x512 .f32 :=
  m.slice (Rect.unit (s := S8192x1024) o.1 S512x512.size o.2) (fun _ => rfl)
/-- A 2048×512 block of the input. -/
abbrev cut4 (o : Sec4) : Memref sig .tc .hbm S2048x512 .f32 :=
  xM.slice (Rect.unit (s := S8192x1024) o.1 S2048x512.size o.2) (fun _ => rfl)

theorem stg_inb (d : Fin 2) (g : Fin 3) : ∀ a, (![d.val, g.val, 0, 0] : Fin 4 → Nat) a + S1x1x2048x512.size a ≤ S2x3x2048x512.size a := by
  revert d g; decide +kernel
theorem stl_inb (d : Fin 2) (g : Fin 3) (b : Fin 4) :
    ∀ a, (![d.val, g.val, 512 * b.val, 0] : Fin 4 → Nat) a + S1x1x512x512.size a ≤ S2x3x2048x512.size a := by
  revert d g b; decide +kernel
theorem sem6_inb (d : Fin 2) (h : Fin 6) (b : Fin 4) :
    ∀ a, (![d.val, h.val, b.val] : Fin 3 → Nat) a + S1x1x1.size a ≤ S2x6x4.size a := by
  revert d h b; decide +kernel
theorem sem4_inb (d : Fin 2) (h : Fin 4) (b : Fin 4) :
    ∀ a, (![d.val, h.val, b.val] : Fin 3 → Nat) a + S1x1x1.size a ≤ S2x4x4.size a := by
  revert d h b; decide +kernel
theorem sem3_inb (d : Fin 2) (g : Fin 3) :
    ∀ a, (![d.val, g.val] : Fin 2 → Nat) a + S1x1.size a ≤ S2x3.size a := by
  revert d g; decide +kernel

/-- The slot of the stage for direction `d`, hop `g`. -/
abbrev slot (d : Fin 2) (g : Fin 3) : Memref sig .tc .vmem S2048x512 .f32 :=
  (sM.slice (Rect.unit (s := S2x3x2048x512) ![d.val, g.val, 0, 0] S1x1x2048x512.size (stg_inb d g)) (fun _ => rfl)).squeeze
    S2048x512 squeezes_S1x1x2048x512_S2048x512
/-- The row block of a slot that a lane adds. -/
abbrev slotR (x : Lane) (g : Fin 3) : Rect S2x3x2048x512 :=
  Rect.unit (s := S2x3x2048x512) ![x.2.val, g.val, 512 * x.1.val, 0] S1x1x512x512.size (stl_inb x.2 g x.1)

abbrev sendS (h : Fin 6) (x : Lane) : DmaSem sig :=
  ((cc0_scratch2.slice (Rect.unit (s := S2x6x4) ![x.2.val, h.val, x.1.val] S1x1x1.size (sem6_inb x.2 h x.1))).squeeze S_ squeezes_S1x1x1_S_).sem
abbrev recvS (h : Fin 6) (x : Lane) : DmaSem sig :=
  ((cc0_scratch3.slice (Rect.unit (s := S2x6x4) ![x.2.val, h.val, x.1.val] S1x1x1.size (sem6_inb x.2 h x.1))).squeeze S_ squeezes_S1x1x1_S_).sem
abbrev copyS (d : Fin 2) (g : Fin 3) : DmaSem sig :=
  ((cc0_scratch4.slice (Rect.unit (s := S2x3) ![d.val, g.val] S1x1.size (sem3_inb d g))).squeeze S_ squeezes_S1x1_S_).sem
abbrev outS (k : Fin 4) (x : Lane) : DmaSem sig :=
  ((cc0_scratch5.slice (Rect.unit (s := S2x4x4) ![x.2.val, k.val, x.1.val] S1x1x1.size (sem4_inb x.2 k x.1))).squeeze S_ squeezes_S1x1x1_S_).sem
/-- The barrier semaphore. -/
abbrev barS : Sem sig := (SemArray.scalar (sig.barrier 0 rfl) : Sems sig S_).sem

/-! ## The steps -/

/-- Read a lane's part of the stage into a 512×512 block. -/
abbrev flat (v : Vec F S1x1x512x512 .f32) : FVec F S512x512 .f32 := shapeCast S512x512 v shapeCasts_S1x1x512x512_S512x512

/-- Copy a half chunk of the input into the stage. -/
abbrev stageStep (c : Dev nD) (d : Fin 2) (g : Fin 3) : Pg F PUnit :=
  Prog.lift (.enqueueDma (cut4 (stO c g d)) (.here (slot d g)) (.dma (copyS d g)) (View.wordExact_bits rfl)
    ((View.wordExact_bits rfl).reshape _ _) ⟨Or.inl rfl, trivial⟩)
/-- Wait for a half chunk to be staged. -/
abbrev stagedStep (c : Dev nD) (d : Fin 2) (g : Fin 3) : Pg F PUnit :=
  Prog.lift (.waitDma2 (copyS d g) (cut4 (stO c g d)) (slot d g) (View.wordExact_bits rfl) ((View.wordExact_bits rfl).reshape _ _))
/-- Send a block of the input to the neighbour (the first hop). -/
abbrev sendXStep (c : Dev nD) (x : Lane) : Pg F PUnit :=
  Prog.lift (.enqueueDma (cut xM (sendO c 0 x)) (.remote (Dev.tc (dst x.2 c)) (cut bM (sendO c 0 x)) (.dma (sendS 0 x)))
    (.dma (recvS 0 x)) (View.wordExact_bits rfl) (View.wordExact_bits rfl) ⟨⟨rfl, Or.inl rfl⟩, trivial⟩)
/-- Send a block of the buffer to the neighbour. -/
abbrev sendStep (c : Dev nD) (h : Fin 6) (x : Lane) : Pg F PUnit :=
  Prog.lift (.enqueueDma (cut bM (sendO c h x)) (.remote (Dev.tc (dst x.2 c)) (cut bM (sendO c h x)) (.dma (sendS h x)))
    (.dma (recvS h x)) (View.wordExact_bits rfl) (View.wordExact_bits rfl) ⟨⟨rfl, Or.inl rfl⟩, trivial⟩)
/-- Wait for a block to arrive. -/
abbrev recvStep (c : Dev nD) (g : Fin 6) (x : Lane) : Pg F PUnit :=
  Prog.lift (.waitDma2 (recvS g x) (cut bM (recvO c g x)) (cut bM (recvO c g x)) (View.wordExact_bits rfl) (View.wordExact_bits rfl))
/-- Add the staged input to the block that arrived. -/
abbrev addStep (c : Dev nD) (g : Fin 3) (x : Lane) : Pg F PUnit :=
  (Prog.lift (.load bM (Rect.unit (s := S8192x1024) (ldO c g x).1 S512x512.size (ldO c g x).2).toLoadRect (View.loadsAt_vmem h_S512x512)) : Pg F (Vec F S512x512 .f32)) >>= fun v =>
  (Prog.lift (.load sM (slotR x g).toLoadRect (View.loadsAt_vmem h_S1x1x512x512)) : Pg F (Vec F S1x1x512x512 .f32)) >>= fun w =>
  (Prog.lift (.load bM (Rect.unit (s := S8192x1024) (ldO c g x).1 S512x512.size (ldO c g x).2).toLoadRect (View.loadsAt_vmem h_S512x512)) : Pg F (Vec F S512x512 .f32)) >>= fun _ =>
  Prog.lift (.store bM (Rect.unit (s := S8192x1024) (ldO c g x).1 S512x512.size (ldO c g x).2)
    (shapeCast S512x512 (addf v (flat w)) shapeCasts_S512x512_S512x512) Finset.univ (View.stores_vmem_bits_univ h_S512x512 rfl) (.inl rfl))
/-- Copy a finished block to the result. -/
abbrev flushStep (c : Dev nD) (g : Fin 6) (k : Fin 4) (x : Lane) : Pg F PUnit :=
  Prog.lift (.enqueueDma (cut bM (recvO c g x)) (.here (cut oM (recvO c g x))) (.dma (outS k x)) (View.wordExact_bits rfl)
    (View.wordExact_bits rfl) ⟨Or.inl rfl, trivial⟩)
/-- Wait for a finished block to be in the result. -/
abbrev flushedStep (c : Dev nD) (g : Fin 6) (k : Fin 4) (x : Lane) : Pg F PUnit :=
  Prog.lift (.waitDma2 (outS k x) (cut bM (recvO c g x)) (cut oM (recvO c g x)) (View.wordExact_bits rfl) (View.wordExact_bits rfl))
/-- Wait for the first hop's send to have been read. -/
abbrev sentXStep (c : Dev nD) (x : Lane) : Pg F PUnit :=
  Prog.lift (.waitDma2 (sendS 0 x) (cut bM (sendO c 0 x)) (cut xM (sendO c 0 x)) (View.wordExact_bits rfl) (View.wordExact_bits rfl))
/-- Wait for a send to have been read. -/
abbrev sentStep (c : Dev nD) (h : Fin 6) (x : Lane) : Pg F PUnit :=
  Prog.lift (.waitDma2 (sendS h x) (cut bM (sendO c h x)) (cut bM (sendO c h x)) (View.wordExact_bits rfl) (View.wordExact_bits rfl))

/-! ## The phases -/

/-- One lane of a hop of the reduction: receive, add, send on. -/
def addLane (c : Dev nD) (g : Fin 3) (h : Fin 6) (x : Lane) : Pg F PUnit :=
  recvStep c (g.castLE (by decide)) x >>= fun _ => addStep c g x >>= fun _ => sendStep c h x
/-- One lane of the turning hop: receive, add, copy out, send on. -/
def turnLane (c : Dev nD) (x : Lane) : Pg F PUnit :=
  recvStep c 2 x >>= fun _ => addStep c 2 x >>= fun _ => flushStep c 2 0 x >>= fun _ => sendStep c 3 x
/-- One lane of a gathering hop: receive, copy out, send on. -/
def fwdLane (c : Dev nD) (g : Fin 6) (k : Fin 4) (h : Fin 6) (x : Lane) : Pg F PUnit :=
  recvStep c g x >>= fun _ => flushStep c g k x >>= fun _ => sendStep c h x
/-- One lane of the last hop: receive, copy out. -/
def lastLane (c : Dev nD) (x : Lane) : Pg F PUnit :=
  recvStep c 5 x >>= fun _ => flushStep c 5 3 x
/-- The barrier with both neighbours. -/
def meet (c : Dev nD) : Pg F PUnit :=
  semSignalWord (dst 0 c) barS 1#32 >>= fun _ => semSignalWord (dst 1 c) barS 1#32 >>= fun _ => semWaitWord barS 2#32
/-- The stage copies. -/
def stages : List (Fin 2 × Fin 3) := [(0, 0), (0, 1), (0, 2), (1, 0), (1, 1), (1, 2)]
/-- The waits for a hop's two stage copies. -/
def staged (c : Dev nD) (g : Fin 3) : Pg F PUnit := stagedStep c 0 g >>= fun _ => stagedStep c 1 g

/-- The body. -/
def nice (c : Dev nD) : Pg F PUnit :=
  meet c >>= fun _ =>
  each (fun p => stageStep c p.1 p.2) stages >>= fun _ =>
  each (sendXStep c) lanes >>= fun _ =>
  staged c 0 >>= fun _ => each (addLane c 0 1) lanes >>= fun _ =>
  staged c 1 >>= fun _ => each (addLane c 1 2) lanes >>= fun _ =>
  staged c 2 >>= fun _ => each (turnLane c) lanes >>= fun _ =>
  each (fwdLane c 3 1 4) lanes >>= fun _ =>
  each (fwdLane c 4 2 5) lanes >>= fun _ =>
  each (lastLane c) lanes >>= fun _ =>
  each (flushedStep c 2 0) lanes >>= fun _ => each (flushedStep c 3 1) lanes >>= fun _ =>
  each (flushedStep c 4 2) lanes >>= fun _ => each (flushedStep c 5 3) lanes >>= fun _ =>
  each (sentXStep c) lanes >>= fun _ => each (sentStep c 1) lanes >>= fun _ => each (sentStep c 2) lanes >>= fun _ =>
  each (sentStep c 3) lanes >>= fun _ => each (sentStep c 4) lanes >>= fun _ => each (sentStep c 5) lanes

end Cert.KernelIdeal.Hop
-- ==== Proof.Region.lean ====
/-
  The regions the arrays are cut into, and what the transfers do to their contents.

  An 8192×1024 array is cut into half chunks (four row chunks by two column halves) and each half chunk into four row
  blocks of 512×512. Contents are functions on the whole array, of which a region holds its part.
-/
module

public import proofs.«01_k».proof.Proof.Prog
public import Idealize.ShloMosaic.Lib.Ring

@[expose] public section

set_option maxRecDepth 65536

noncomputable section

namespace Cert.KernelIdeal.Hop

open Idealize.ShloMosaic Idealize.ShloMosaic.TcCoe Idealize.SL.Sem
open Cert.KernelIdeal Cert.KernelIdeal.Gen

variable {F : FTy → Type} [FloatOps F]

/-- The contents of an 8192×1024 array. -/
abbrev Arr (F : FTy → Type) := S8192x1024.Idx → Elt F .f32

/-- The rectangle of a block. -/
abbrev blkR (o : Sec) : Rect S8192x1024 := Rect.unit (s := S8192x1024) o.1 S512x512.size o.2
/-- The rectangle of a half chunk. -/
abbrev halfR (o : Sec4) : Rect S8192x1024 := Rect.unit (s := S8192x1024) o.1 S2048x512.size o.2

/-- The indices of a block. -/
def BlkS (k : Fin 4) (x : Lane) : Finset S8192x1024.Idx := (blkR (blk k x)).set
/-- The indices of a half chunk. -/
def HalfS (p : Fin 4 × Fin 2) : Finset S8192x1024.Idx := (halfR (half p.1 p.2)).set

omit [FloatOps F] in
/-- Membership in a block, by coordinates. -/
theorem mem_BlkS {k : Fin 4} {x : Lane} {i : S8192x1024.Idx} :
    i ∈ BlkS k x ↔ (2048 * k.val + 512 * x.1.val ≤ (i 0).val ∧ (i 0).val < 2048 * k.val + 512 * x.1.val + 512)
      ∧ (512 * x.2.val ≤ (i 1).val ∧ (i 1).val < 512 * x.2.val + 512) := by
  unfold BlkS; rw [Rect.mem_set_unit, Fin.forall_fin_two]; exact Iff.rfl
/-- Membership in a half chunk, by coordinates. -/
theorem mem_HalfS {p : Fin 4 × Fin 2} {i : S8192x1024.Idx} :
    i ∈ HalfS p ↔ (2048 * p.1.val ≤ (i 0).val ∧ (i 0).val < 2048 * p.1.val + 2048)
      ∧ (512 * p.2.val ≤ (i 1).val ∧ (i 1).val < 512 * p.2.val + 512) := by
  unfold HalfS; rw [Rect.mem_set_unit, Fin.forall_fin_two]; exact Iff.rfl

/-- An index's chunk. -/
def chunkOf (i : S8192x1024.Idx) : Fin 4 := ⟨(i 0).val / 2048, by
  have h : (i 0).val < 8192 := (i 0).isLt; omega⟩
/-- An index's column half. -/
def dirOf (i : S8192x1024.Idx) : Fin 2 := ⟨(i 1).val / 512, by
  have h : (i 1).val < 1024 := (i 1).isLt; omega⟩
/-- An index's row block. -/
def rowOf (i : S8192x1024.Idx) : Fin 4 := ⟨(i 0).val % 2048 / 512, by omega⟩

/-- An index is in a half chunk just when chunk and half are its own. -/
theorem mem_HalfS_iff {p : Fin 4 × Fin 2} {i : S8192x1024.Idx} : i ∈ HalfS p ↔ p = (chunkOf i, dirOf i) := by
  obtain ⟨k, d⟩ := p
  rw [mem_HalfS, Prod.mk.injEq, Fin.ext_iff, Fin.ext_iff]
  have := k.isLt; have := d.isLt
  simp only [chunkOf, dirOf]
  omega
/-- An index is in a block just when chunk, row block and half are its own. -/
theorem mem_BlkS_iff {k : Fin 4} {x : Lane} {i : S8192x1024.Idx} :
    i ∈ BlkS k x ↔ k = chunkOf i ∧ x = (rowOf i, dirOf i) := by
  obtain ⟨b, d⟩ := x
  rw [mem_BlkS, Prod.mk.injEq, Fin.ext_iff, Fin.ext_iff, Fin.ext_iff]
  have := k.isLt; have := d.isLt; have := b.isLt
  simp only [chunkOf, dirOf, rowOf]
  omega

theorem HalfS_disjoint (p p' : Fin 4 × Fin 2) (h : p ≠ p') : Disjoint (HalfS p) (HalfS p') :=
  Finset.disjoint_left.mpr fun _ hi hj => h ((mem_HalfS_iff.mp hi).trans (mem_HalfS_iff.mp hj).symm)
theorem HalfS_cover : Finset.univ.biUnion HalfS = Finset.univ :=
  Finset.eq_univ_of_forall fun i => Finset.mem_biUnion.mpr ⟨_, Finset.mem_univ _, mem_HalfS_iff.mpr rfl⟩
theorem BlkS_disjoint (k : Fin 4) (d : Fin 2) (b b' : Fin 4) (h : b ≠ b') : Disjoint (BlkS k (b, d)) (BlkS k (b', d)) :=
  Finset.disjoint_left.mpr fun _ hi hj => h (congrArg Prod.fst ((mem_BlkS_iff.mp hi).2.trans (mem_BlkS_iff.mp hj).2.symm))
theorem BlkS_cover (p : Fin 4 × Fin 2) : (Finset.univ.biUnion fun b : Fin 4 => BlkS p.1 (b, p.2)) = HalfS p := by
  ext i
  rw [Finset.mem_biUnion, mem_HalfS_iff]
  constructor
  · rintro ⟨b, -, hb⟩
    obtain ⟨h1, h2⟩ := mem_BlkS_iff.mp hb
    exact Prod.ext h1 (Prod.mk.inj h2).2
  · rintro rfl
    exact ⟨rowOf i, Finset.mem_univ _, mem_BlkS_iff.mpr ⟨rfl, rfl⟩⟩

/-! ## The views' index sets -/

theorem set_cutB (k : Fin 4) (x : Lane) : (cut bM (blk k x)).view.set = BlkS k x := View.set_slice_whole _ _
theorem set_cutX (k : Fin 4) (x : Lane) : (cut xM (blk k x)).view.set = BlkS k x := View.set_slice_whole _ _
theorem set_cutO (k : Fin 4) (x : Lane) : (cut oM (blk k x)).view.set = BlkS k x := View.set_slice_whole _ _
theorem set_cut4 (k : Fin 4) (d : Fin 2) : (cut4 (half k d)).view.set = HalfS (k, d) := View.set_slice_whole _ _

/-! ## Contents after a transfer -/

omit [FloatOps F] in
/-- A block of the input written into the buffer is the input there. -/
theorem write_XB (k : Fin 4) (x : Lane) (fd fs : Arr F) (i : S8192x1024.Idx) (hi : i ∈ BlkS k x) :
    (cut bM (blk k x)).view.write (Elt F) fd ((cut xM (blk k x)).view.read (Elt F) fs) Finset.univ i = fs i := by
  refine (congrFun (View.write_read_eq_piecewise (v := (cut bM (blk k x)).view) fd fs Finset.univ) i).trans ?_
  exact Finset.piecewise_eq_of_mem _ _ _ (by rw [View.setOn_univ, set_cutB]; exact hi)
omit [FloatOps F] in
/-- A block of the buffer written into the same block of another device's buffer. -/
theorem write_BB (k : Fin 4) (x : Lane) (fd fs : Arr F) (i : S8192x1024.Idx) (hi : i ∈ BlkS k x) :
    (cut bM (blk k x)).view.write (Elt F) fd ((cut bM (blk k x)).view.read (Elt F) fs) Finset.univ i = fs i := by
  refine (congrFun (View.write_read_eq_piecewise (v := (cut bM (blk k x)).view) fd fs Finset.univ) i).trans ?_
  exact Finset.piecewise_eq_of_mem _ _ _ (by rw [View.setOn_univ, set_cutB]; exact hi)
omit [FloatOps F] in
/-- A block of the buffer written into the result. -/
theorem write_BO (k : Fin 4) (x : Lane) (fd fs : Arr F) (i : S8192x1024.Idx) (hi : i ∈ BlkS k x) :
    (cut oM (blk k x)).view.write (Elt F) fd ((cut bM (blk k x)).view.read (Elt F) fs) Finset.univ i = fs i := by
  refine (congrFun (View.write_read_eq_piecewise (v := (cut oM (blk k x)).view) fd fs Finset.univ) i).trans ?_
  exact Finset.piecewise_eq_of_mem _ _ _ (by rw [View.setOn_univ, set_cutO]; exact hi)

/-! ## The stage -/

/-- The contents of the stage. -/
abbrev Stg (F : FTy → Type) := S2x3x2048x512.Idx → Elt F .f32

/-- The elements of a slot a lane reads lie in the slot. -/
theorem slot_sub (x : Lane) (g : Fin 3) : (sM.view.setOn (slotR x g).toLoadRect.set) ⊆ (slot x.2 g).view.set := by
  have h : (slot x.2 g).view.set = (Rect.unit (s := S2x3x2048x512) ![x.2.val, g.val, 0, 0] S1x1x2048x512.size (stg_inb x.2 g)).set := by
    refine (View.set_reshape (v := (sM.slice (Rect.unit (s := S2x3x2048x512) ![x.2.val, g.val, 0, 0] S1x1x2048x512.size (stg_inb x.2 g)) (fun _ => rfl)).view) _).trans ?_
    exact View.set_slice_whole _ _
  rw [h]
  intro i hi
  have hi' : i ∈ (slotR x g).set := by
    obtain ⟨j, hj, rfl⟩ := Finset.mem_map.mp hi; exact hj
  rw [Rect.mem_set_unit] at hi' ⊢
  intro a
  have := hi' a
  have hb := x.1.isLt
  fin_cases a <;> simp_all <;> omega

omit [FloatOps F] in
/-- What a lane reads from a slot filled with a half chunk is the half chunk's row block. -/
theorem flat_slot (k : Fin 4) (x : Lane) (g : Fin 3) (fd : Stg F) (fs : Arr F) (j : S512x512.Idx) :
    flat (sM.view.readAt (Elt F) (slotR x g).toLoadRect
      ((slot x.2 g).view.write (Elt F) fd ((cut4 (half k x.2)).view.read (Elt F) fs) Finset.univ)) j
      = fs ((blkR (blk k x)).emb j) := by
  have hj0 : (j 0).val < 512 := (j 0).isLt
  have hj1 : (j 1).val < 512 := (j 1).isLt
  have hb : x.1.val < 4 := x.1.isLt
  -- the half chunk's index the lane's index reads
  let y : S2048x512.Idx := Shape.pair (d := ![2048, 512]) ⟨512 * x.1.val + (j 0).val, by show _ < 2048; omega⟩ ⟨(j 1).val, by show _ < 512; omega⟩
  have e1 : (Shape.reshapeEquiv shapeCasts_S1x1x512x512_S512x512 j : S1x1x512x512.Idx)
      = (fun a => match a with | 0 => ⟨0, by decide⟩ | 1 => ⟨0, by decide⟩ | 2 => j 0 | 3 => j 1 : S1x1x512x512.Idx) := by
    refine Shape.reshapeEquiv_eq_of_rowMajor _ ?_
    rw [Shape.rowMajor_val_four, Shape.rowMajor_val_two]; simp
  have e2 : (Shape.reshapeEquiv (Shape.Squeezes.numel_eq squeezes_S1x1x2048x512_S2048x512) y : S1x1x2048x512.Idx)
      = (fun a => match a with | 0 => ⟨0, by decide⟩ | 1 => ⟨0, by decide⟩ | 2 => y 0 | 3 => y 1 : S1x1x2048x512.Idx) := by
    refine Shape.reshapeEquiv_eq_of_rowMajor _ ?_
    rw [Shape.rowMajor_val_four, Shape.rowMajor_val_two]; simp
  have e3 : (slotR x g).toLoadRect.idx (Shape.reshapeEquiv shapeCasts_S1x1x512x512_S512x512 j) = (slot x.2 g).view.emb y := by
    rw [e1]
    show _ = (Rect.unit (s := S2x3x2048x512) ![x.2.val, g.val, 0, 0] S1x1x2048x512.size (stg_inb x.2 g)).emb
      (Shape.reshapeEquiv (Shape.Squeezes.numel_eq squeezes_S1x1x2048x512_S2048x512) y)
    rw [e2]
    funext a
    fin_cases a <;> refine Fin.ext ?_
    · show x.2.val + 1 * 0 = x.2.val + 1 * 0; rfl
    · show g.val + 1 * 0 = g.val + 1 * 0; rfl
    · show 512 * x.1.val + 1 * (j 0).val = 0 + 1 * (512 * x.1.val + (j 0).val); omega
    · show 0 + 1 * (j 1).val = 0 + 1 * (j 1).val; rfl
  have e4 : (halfR (half k x.2)).emb y = (blkR (blk k x)).emb j := by
    funext a
    fin_cases a <;> refine Fin.ext ?_
    · show 2048 * k.val + 1 * (512 * x.1.val + (j 0).val) = 2048 * k.val + 512 * x.1.val + 1 * (j 0).val; omega
    · show 512 * x.2.val + 1 * (j 1).val = 512 * x.2.val + 1 * (j 1).val; rfl
  show (slot x.2 g).view.write (Elt F) fd ((cut4 (half k x.2)).view.read (Elt F) fs) Finset.univ
    ((slotR x g).toLoadRect.idx (Shape.reshapeEquiv shapeCasts_S1x1x512x512_S512x512 j)) = _
  rw [e3]
  refine (View.write_emb_of_mem (v := (slot x.2 g).view) fd _ (Finset.mem_univ y)).trans ?_
  show fs ((halfR (half k x.2)).emb y) = _
  rw [e4]

/-! ## The adding step -/

omit [FloatOps F] in
/-- A block is read whole by a lane's load. -/
theorem load_sub (k : Fin 4) (x : Lane) : (bM.view.setOn (blkR (blk k x)).toLoadRect.set) ⊆ BlkS k x := by
  intro i hi
  obtain ⟨j, hj, rfl⟩ := Finset.mem_map.mp hi; exact hj
omit [FloatOps F] in
/-- A lane's store writes a block. -/
theorem store_sub (k : Fin 4) (x : Lane) : ((bM.access (blkR (blk k x))).setOn Finset.univ) ⊆ BlkS k x := by
  rw [View.setOn_univ]
  exact (View.set_slice_whole _ _).subset

/-- What a lane's store leaves in a block: what was there plus what was staged. -/
theorem store_add (k : Fin 4) (x : Lane) (g : Fin 3) (fd : Stg F) (fs f : Arr F) (i : S8192x1024.Idx) (hi : i ∈ BlkS k x) :
    (bM.access (blkR (blk k x))).write (Elt F) f
      (shapeCast S512x512 (addf (bM.view.readAt (Elt F) (blkR (blk k x)).toLoadRect f)
        (flat (sM.view.readAt (Elt F) (slotR x g).toLoadRect
          ((slot x.2 g).view.write (Elt F) fd ((cut4 (half k x.2)).view.read (Elt F) fs) Finset.univ))))
        shapeCasts_S512x512_S512x512) Finset.univ i
      = FloatOps.addf (f i) (fs i) := by
  have hi' : i ∈ (bM.access (blkR (blk k x))).set := by
    have : (bM.access (blkR (blk k x))).set = BlkS k x := View.set_slice_whole _ _
    rw [this]; exact hi
  obtain ⟨j, -, rfl⟩ := Finset.mem_map.mp hi'
  refine (View.write_emb_of_mem (v := (bM.access (blkR (blk k x)))) f _ (Finset.mem_univ j)).trans ?_
  show FloatOps.addf (bM.view.readAt (Elt F) (blkR (blk k x)).toLoadRect f (Shape.reshapeEquiv shapeCasts_S512x512_S512x512 j))
    (flat _ (Shape.reshapeEquiv shapeCasts_S512x512_S512x512 j)) = _
  rw [Shape.reshapeEquiv_self, flat_slot]
  rfl

end Cert.KernelIdeal.Hop
-- ==== Proof.Rings.lean ====
/-
  The rings, the names of the semaphores, and the partial sums.
-/
module

public import proofs.«01_k».proof.Proof.Region
public import Idealize.ShloMosaic.Lib.Tactic

@[expose] public section

set_option maxRecDepth 65536

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The rings -/

/-- The device direction `d` receives from. -/
def src : Fin 2 → Dev nD → Dev nD
  | 0, c => dst 1 c
  | 1, c => dst 0 c

theorem src_dst (d : Fin 2) (c : Dev nD) : src d (dst d c) = c := by revert d c; decide +kernel
theorem dst_src (d : Fin 2) (c : Dev nD) : dst d (src d c) = c := by revert d c; decide +kernel
theorem dst_dst (c : Dev nD) : dst 1 (dst 0 c) = c := by revert c; decide +kernel
theorem dst_dst' (c : Dev nD) : dst 0 (dst 1 c) = c := by revert c; decide +kernel
/-- What a device sends at a hop its neighbour receives there. -/
theorem recvC_dst (d : Fin 2) (c : Dev nD) (h : Fin 6) : recvC d (dst d c) h = sendC d c h := by revert d c h; decide +kernel
/-- What a device sends after the first hop it received the hop before. -/
theorem sendC_succ (d : Fin 2) (c : Dev nD) (h : Fin 5) : sendC d c (h.val + 1) = recvC d c h := by revert d c h; decide +kernel

/-- The devices the permissions for whose buffers come with the block a device receives at a hop. -/
def extL (d : Fin 2) (c : Dev nD) : Fin 6 → List (Dev nD)
  | 0 => []
  | 1 => [src d c]
  | 2 => [src d (src d c), src d c]
  | 3 => [dst d c, dst d (dst d c)]
  | 4 => [dst d c]
  | 5 => []

/-- On the reducing hops the sender's own buffer is added. -/
theorem extL_reduce (d : Fin 2) (c : Dev nD) (g h : Fin 6) (e : h.val = g.val + 1) (e' : h.val ≤ 2) :
    extL d (dst d c) h = extL d c g ++ [c] := by revert d c g h; decide +kernel
/-- On the turning hop the permissions travel unchanged. -/
theorem extL_turn (d : Fin 2) (c : Dev nD) : extL d (dst d c) 3 = extL d c 2 := by revert d c; decide +kernel
/-- On the last two hops the first is used. -/
theorem extL_gather (d : Fin 2) (c : Dev nD) (g h : Fin 6) (e : h.val = g.val + 1) (e' : 3 ≤ g.val) :
    extL d c g = dst d c :: extL d (dst d c) h := by revert d c g h; decide +kernel

/-! ## Contents -/

variable (X : Dev nD → Arr F)

/-- The device that adds the `n`-th summand of a chunk. -/
def hopDev : Fin 2 → Fin 4 → Fin 4 → Dev nD
  | 0, n, k => k + n
  | 1, n, k => k - n

/-- The device receiving at hop `g` adds the `g+1`-st summand. -/
theorem hopDev_recv (d : Fin 2) (c : Dev nD) (g : Fin 3) : hopDev d g.succ (recvC d c g) = c := by revert d c g; decide +kernel
theorem hopDev_zero (d : Fin 2) (k : Fin 4) : hopDev d 0 k = k := by revert d k; decide +kernel
theorem sendC_zero (d : Fin 2) (c : Dev nD) : sendC d c 0 = c := by revert d c; decide +kernel

/-- The partial sums: after `n` additions. -/
def acc : Fin 4 → Arr F
  | 0 => fun i => X (chunkOf i) i
  | 1 => fun i => FloatOps.addf (X (chunkOf i) i) (X (hopDev (dirOf i) 1 (chunkOf i)) i)
  | 2 => fun i => FloatOps.addf (FloatOps.addf (X (chunkOf i) i) (X (hopDev (dirOf i) 1 (chunkOf i)) i))
      (X (hopDev (dirOf i) 2 (chunkOf i)) i)
  | 3 => fun i => FloatOps.addf (FloatOps.addf (FloatOps.addf (X (chunkOf i) i) (X (hopDev (dirOf i) 1 (chunkOf i)) i))
      (X (hopDev (dirOf i) 2 (chunkOf i)) i)) (X (hopDev (dirOf i) 3 (chunkOf i)) i)

/-- What a block holds as it arrives at a hop. -/
def accAt : Fin 6 → Arr F
  | 0 => acc X 0 | 1 => acc X 1 | 2 => acc X 2 | 3 => acc X 3 | 4 => acc X 3 | 5 => acc X 3

/-- The first hop carries the sender's input. -/
theorem acc_zero (c : Dev nD) (x : Lane) (i : S8192x1024.Idx) (hi : i ∈ BlkS (sendC x.2 c 0) x) : X c i = acc X 0 i := by
  rw [sendC_zero] at hi
  show X c i = X (chunkOf i) i
  rw [← (mem_BlkS_iff.mp hi).1]
/-- Adding the receiver's input to what arrived gives the next partial sum. -/
theorem acc_succ (c : Dev nD) (g : Fin 3) (x : Lane) (i : S8192x1024.Idx) (hi : i ∈ BlkS (recvC x.2 c g) x) :
    FloatOps.addf (acc X g.castSucc i) (X c i) = acc X g.succ i := by
  obtain ⟨h1, h2⟩ := mem_BlkS_iff.mp hi
  have h3 : x.2 = dirOf i := congrArg Prod.snd h2
  have h4 : hopDev (dirOf i) g.succ (chunkOf i) = c := by rw [← h1, ← h3]; exact hopDev_recv _ _ _
  match g, h4 with
  | 0, h4 => exact congrArg (fun c => FloatOps.addf (acc X 0 i) (X c i)) h4.symm
  | 1, h4 => exact congrArg (fun c => FloatOps.addf (acc X 1 i) (X c i)) h4.symm
  | 2, h4 => exact congrArg (fun c => FloatOps.addf (acc X 2 i) (X c i)) h4.symm

/-! ## The cells -/

/-- The kernel's transfer semaphores: sends, receives, stage copies, copies to the result. -/
abbrev Key := (Fin 6 × Lane) ⊕ (Fin 6 × Lane) ⊕ (Fin 2 × Fin 3) ⊕ (Fin 4 × Lane)
abbrev kSend (h : Fin 6) (x : Lane) : Key := .inl (h, x)
abbrev kRecv (h : Fin 6) (x : Lane) : Key := .inr (.inl (h, x))
abbrev kCopy (d : Fin 2) (g : Fin 3) : Key := .inr (.inr (.inl (d, g)))
abbrev kOut (k : Fin 4) (x : Lane) : Key := .inr (.inr (.inr (k, x)))

/-- A key's semaphore. -/
def dsem : Key → DmaSem sig
  | .inl (h, x) => sendS h x
  | .inr (.inl (h, x)) => recvS h x
  | .inr (.inr (.inl (d, g))) => copyS d g
  | .inr (.inr (.inr (k, x))) => outS k x

/-- A semaphore's key. -/
def keyOf (s : DmaSem sig) : Key :=
  let n : Nat := Fin.val (n := 134) s
  if n < 48 then kSend (Fin.ofNat 6 (n % 24 / 4)) (Fin.ofNat 4 (n % 4), Fin.ofNat 2 (n / 24))
  else if n < 96 then kRecv (Fin.ofNat 6 ((n - 48) % 24 / 4)) (Fin.ofNat 4 (n % 4), Fin.ofNat 2 ((n - 48) / 24))
  else if n < 102 then kCopy (Fin.ofNat 2 ((n - 96) / 3)) (Fin.ofNat 3 ((n - 96) % 3))
  else kOut (Fin.ofNat 4 ((n - 102) % 16 / 4)) (Fin.ofNat 4 ((n - 102) % 4), Fin.ofNat 2 ((n - 102) / 16))

instance keyDec : DecidableEq Key :=
  have : DecidableEq ((Fin 2 × Fin 3) ⊕ (Fin 4 × Lane)) := instDecidableEqSum
  have : DecidableEq ((Fin 6 × Lane) ⊕ (Fin 2 × Fin 3) ⊕ (Fin 4 × Lane)) := instDecidableEqSum
  instDecidableEqSum
theorem keyOf_dsem (k : Key) : keyOf (dsem k) = k := by
  rcases k with ⟨h, b, d⟩ | ⟨h, b, d⟩ | ⟨d, g⟩ | ⟨k, b, d⟩
  · revert h b d; decide +kernel
  · revert h b d; decide +kernel
  · revert d g; decide +kernel
  · revert k b d; decide +kernel
theorem dsem_keyOf (s : DmaSem sig) : dsem (keyOf s) = s := by
  have h : ∀ s : Fin 134, dsem (keyOf s) = s := by decide +kernel
  exact h s

/-- Keys are semaphores. -/
def keyEquiv : Key ≃ DmaSem sig := ⟨dsem, keyOf, keyOf_dsem, dsem_keyOf⟩

/-- A block's credit, and a half chunk's. -/
def N : ℕ := (cut bM (blk 0 (0, 0))).view.dmaCredit
def N4 : ℕ := (cut4 (half 0 0)).view.dmaCredit

/-- The semaphores the protocol runs on: the barrier and the transfer semaphores. -/
def semOf : Option Key → SemLoc sig
  | none => .reg barS
  | some k => .dma (dsem k)
/-- A device's cell. -/
abbrev cell (c : Dev nD) (o : Option Key) : GSem nD τ sig := ((c : Thread nD τ), semOf o)

end Cert.KernelIdeal.Hop
-- ==== Proof.Protocol.lean ====
/-
  The protocol between the four devices.

  In each direction the devices form a ring. Device `c` adds what arrives to its own input and sends it on; after three
  hops a chunk is summed, and three more hops hand the sum around. A device may write its neighbour's buffer because the
  permission for the block it writes has come to it: at the barrier for the first four hops, and for the last two with
  the blocks themselves, which carry the permissions for the buffers they were read from.
-/
module

public import proofs.«01_k».proof.Proof.Rings
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 65536

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The rounds' ghost state, with two duty names. -/
abbrev UB : Type := URounds (GSem nD τ sig) (Fin 2)
/-- The pipeline's ghost state beside it. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (X : Dev nD → Arr F)

/-! ## Ownership -/

/-- A share of a block of a device's buffer. -/
def bP (e : Dev nD) (k : Fin 4) (x : Lane) (q : PosShare TreeShare) (f : Arr F) : sProp 𝕄 :=
  (cut bM (blk k x)).view.loc (e : Thread nD τ) ↦[(cut bM (blk k x)).view.set]{q} f
/-- A block of a device's input. -/
def xB (c : Dev nD) (k : Fin 4) (x : Lane) : sProp 𝕄 :=
  (cut xM (blk k x)).view.loc (c : Thread nD τ) ↦[(cut xM (blk k x)).view.set]{fullShare} X c
/-- A half chunk of a device's input. -/
def xH (c : Dev nD) (k : Fin 4) (d : Fin 2) : sProp 𝕄 :=
  (cut4 (half k d)).view.loc (c : Thread nD τ) ↦[(cut4 (half k d)).view.set]{fullShare} X c
/-- A block of a device's result. -/
def oB (c : Dev nD) (k : Fin 4) (x : Lane) (f : Arr F) : sProp 𝕄 :=
  (cut oM (blk k x)).view.loc (c : Thread nD τ) ↦[(cut oM (blk k x)).view.set]{fullShare} f
/-- A slot of a device's stage. -/
def slotP (c : Dev nD) (d : Fin 2) (g : Fin 3) (f : Stg F) : sProp 𝕄 :=
  (slot d g).view.loc (c : Thread nD τ) ↦[(slot d g).view.set]{fullShare} f
/-- A slot's contents after a half chunk is copied in. -/
def slotW (k : Fin 4) (d : Fin 2) (g : Fin 3) (fd : Stg F) (fs : Arr F) : Stg F :=
  (slot d g).view.write (Elt F) fd ((cut4 (half k d)).view.read (Elt F) fs) Finset.univ
/-- A slot filled with the half chunk of a hop. -/
def slotF (c : Dev nD) (d : Fin 2) (g : Fin 3) : sProp 𝕄 :=
  iprop(∃ fd, slotP c d g (slotW (recvC d c g) d g fd (X c)))

omit [FloatOps F] in
instance bP_storable (e k x q f) : BI.Storable (upEmb : UEmb _ 𝕄) (bP (F := F) e k x q f) := by unfold bP; infer_instance
omit [FloatOps F] in
instance xB_storable (c k x) : BI.Storable (upEmb : UEmb _ 𝕄) (xB (F := F) X c k x) := by unfold xB; infer_instance
omit [FloatOps F] in
instance xH_storable (c k d) : BI.Storable (upEmb : UEmb _ 𝕄) (xH (F := F) X c k d) := by unfold xH; infer_instance
omit [FloatOps F] in
instance oB_storable (c k x f) : BI.Storable (upEmb : UEmb _ 𝕄) (oB (F := F) c k x f) := by unfold oB; infer_instance
omit [FloatOps F] in
instance slotP_storable (c d g f) : BI.Storable (upEmb : UEmb _ 𝕄) (slotP (F := F) c d g f) := by unfold slotP; infer_instance
omit [FloatOps F] in
instance slotF_storable (c d g) : BI.Storable (upEmb : UEmb _ 𝕄) (slotF (F := F) X c d g) := by unfold slotF; infer_instance

/-- A block of each listed device's buffer, whatever it holds. -/
def exts (l : List (Dev nD)) (k : Fin 4) (x : Lane) : sProp 𝕄 :=
  bigSepL l fun e => iprop(∃ f, bP e k x fullShare f)
omit [FloatOps F] in
instance exts_storable (l k x) : BI.Storable (upEmb : UEmb _ 𝕄) (exts (F := F) l k x) := by
  unfold exts
  induction l with
  | nil => rw [bigSepL_nil]; exact inferInstanceAs (BI.Storable (upEmb : UEmb _ 𝕄) iprop(emp))
  | cons a l ih =>
    rw [bigSepL_cons]
    exact inferInstanceAs (BI.Storable (upEmb : UEmb _ 𝕄)
      iprop((∃ f, bP a k x fullShare f) ∗ bigSepL l fun e => iprop(∃ f, bP e k x fullShare f)))

/-! ## The schedule -/

/-- What the barrier's signal from the neighbour `dst d e` brings: its buffer's half. -/
def barPay (e : Dev nD) (d : Fin 2) : sProp 𝕄 :=
  bigSep (Finset.univ : Finset (Fin 4 × Fin 4)) fun p => iprop(∃ f, bP (dst d e) p.1 (p.2, d) fullShare f)
/-- What a send leaves behind once its source is read. -/
def sendPay (c : Dev nD) (x : Lane) : Fin 6 → sProp 𝕄
  | 0 => xB X c (sendC x.2 c 0) x
  | 1 => iprop(emp)
  | 2 => iprop(emp)
  | 3 => bP c (sendC x.2 c 3) x fullShare.left (acc X 3)
  | 4 => bP c (sendC x.2 c 4) x fullShare.left (acc X 3)
  | 5 => bP c (sendC x.2 c 5) x fullShare.left (acc X 3)
/-- What arrives at a hop. -/
def recvPay (c : Dev nD) (x : Lane) (h : Fin 6) : sProp 𝕄 :=
  iprop(bP c (recvC x.2 c h) x fullShare (accAt X h) ∗ exts (extL x.2 c h) (recvC x.2 c h) x)
/-- What a stage copy leaves. -/
def copyPay (c : Dev nD) (d : Fin 2) (g : Fin 3) : sProp 𝕄 := iprop(slotF X c d g ∗ xH X c (recvC d c g) d)
/-- What a copy to the result leaves. -/
def outPay (c : Dev nD) (x : Lane) (k : Fin 4) : sProp 𝕄 :=
  iprop(oB c (recvC x.2 c (k.val + 2)) x (acc X 3) ∗ bP c (recvC x.2 c (k.val + 2)) x fullShare.right (acc X 3))

/-- What each transfer semaphore hands its device. -/
def keyPay (c : Dev nD) : Key → sProp 𝕄
  | .inl (h, x) => sendPay X c x h
  | .inr (.inl (h, x)) => recvPay X c x h
  | .inr (.inr (.inl (d, g))) => copyPay X c d g
  | .inr (.inr (.inr (k, x))) => outPay X c x k
/-- What each semaphore counts up to. -/
def keyAmt : Key → ℕ
  | .inl _ => N
  | .inr (.inl _) => N
  | .inr (.inr (.inl _)) => N4
  | .inr (.inr (.inr _)) => N
theorem keyAmt_pos (k : Key) : 0 < keyAmt k := by
  match k with
  | .inl _ => exact View.dmaCredit_pos _ (by decide)
  | .inr (.inl _) => exact View.dmaCredit_pos _ (by decide)
  | .inr (.inr (.inl _)) => exact View.dmaCredit_pos _ (by decide)
  | .inr (.inr (.inr _)) => exact View.dmaCredit_pos _ (by decide)

omit [FloatOps F] in
instance barPay_storable (e d) : BI.Storable (upEmb : UEmb _ 𝕄) (barPay (F := F) e d) := by unfold barPay; infer_instance
instance sendPay_storable (c x h) : BI.Storable (upEmb : UEmb _ 𝕄) (sendPay (F := F) X c x h) := by
  unfold sendPay; split <;> infer_instance
instance recvPay_storable (c x h) : BI.Storable (upEmb : UEmb _ 𝕄) (recvPay (F := F) X c x h) := by unfold recvPay; infer_instance
omit [FloatOps F] in
instance copyPay_storable (c d g) : BI.Storable (upEmb : UEmb _ 𝕄) (copyPay (F := F) X c d g) := by unfold copyPay; infer_instance
instance outPay_storable (c x k) : BI.Storable (upEmb : UEmb _ 𝕄) (outPay (F := F) X c x k) := by unfold outPay; infer_instance
instance keyPay_storable (c k) : BI.Storable (upEmb : UEmb _ 𝕄) (keyPay (F := F) X c k) := by
  unfold keyPay; split <;> infer_instance

/-- The names of a cell's duties. -/
def dutyOf : SemLoc sig → Finset (Fin 2)
  | .reg _ => Finset.univ
  | .dma _ => {0}
/-- A duty's amount. -/
def amtOf : SemLoc sig → ℕ
  | .reg _ => 1
  | .dma s => keyAmt (keyOf s)
/-- A duty's payload. -/
def payOf (c : Dev nD) (d : Fin 2) : SemLoc sig → sProp 𝕄
  | .reg _ => barPay c d
  | .dma s => keyPay X c (keyOf s)

/-- One round: two signals at a barrier cell, one transfer at a transfer semaphore's. -/
def sched : Rounds.Schedule (GSem nD τ sig) (Fin 2) 𝕄 where
  duties g r := if r = 0 ∧ g.1.2 = .tc then dutyOf g.2 else ∅
  unitless _ := False
  amount g _ _ := amtOf g.2
  payload g _ d := payOf X g.1.1 d g.2
  amount_pos g _ _ _ := by
    unfold amtOf; split
    · exact Nat.one_pos
    · exact keyAmt_pos _

instance sched_payload_storable (g : GSem nD τ sig) (r : ℕ) (d : Fin 2) :
    BI.Storable (upEmb : UEmb _ 𝕄) ((sched (F := F) X).payload g r d) := by
  show BI.Storable upEmb (payOf X g.1.1 d g.2)
  unfold payOf; split <;> infer_instance

theorem duties_later (g : GSem nD τ sig) : ∀ r, 1 ≤ r → (sched X).duties g r = ∅ :=
  fun r hr => if_neg fun h => by omega
theorem duties_bar (c : Dev nD) : (sched X).duties (cell c none) 0 = Finset.univ := by
  dsimp only [sched]; exact (if_pos ⟨rfl, rfl⟩).trans rfl
theorem duties_key (c : Dev nD) (k : Key) : (sched X).duties (cell c (some k)) 0 = {0} := by
  dsimp only [sched]; exact (if_pos ⟨rfl, rfl⟩).trans rfl
theorem mem_key (c : Dev nD) (k : Key) : (0 : Fin 2) ∈ (sched X).duties (cell c (some k)) 0 := by
  rw [duties_key]; exact Finset.mem_singleton_self _
theorem mem_bar (c : Dev nD) (d : Fin 2) : d ∈ (sched X).duties (cell c none) 0 := by
  rw [duties_bar]; exact Finset.mem_univ _
theorem amount_bar (c : Dev nD) (d : Fin 2) : (sched X).amount (cell c none) 0 d = 1 := rfl
theorem amount_key (c : Dev nD) (k : Key) (d : Fin 2) : (sched X).amount (cell c (some k)) 0 d = keyAmt k := by
  dsimp only [sched, semOf, amtOf]; rw [keyOf_dsem]
theorem payload_bar (c : Dev nD) (d : Fin 2) : (sched X).payload (cell c none) 0 d = barPay c d := rfl
theorem payload_key (c : Dev nD) (k : Key) (d : Fin 2) : (sched X).payload (cell c (some k)) 0 d = keyPay X c k := by
  dsimp only [sched, semOf, payOf]; rw [keyOf_dsem]
theorem expect_bar (c : Dev nD) : (sched X).expect (cell c none) 0 = 2 := by
  unfold Schedule.expect Schedule.amountOf
  rw [duties_bar, Finset.sum_congr rfl fun d _ => amount_bar X c d, Finset.sum_const, Finset.card_univ, Fintype.card_fin, smul_eq_mul]
theorem expect_key (c : Dev nD) (k : Key) : (sched X).expect (cell c (some k)) 0 = keyAmt k := by
  unfold Schedule.expect Schedule.amountOf; rw [duties_key, Finset.sum_singleton, amount_key]
theorem rest_bar (c : Dev nD) : bigSep ((sched X).duties (cell c none) 0 \ ∅) (fun d => (sched X).payload (cell c none) 0 d)
    = iprop(barPay c 0 ∗ barPay c 1) := by
  rw [Finset.sdiff_empty, duties_bar, bigSep_univ_two]; rfl
theorem rest_key (c : Dev nD) (k : Key) :
    bigSep ((sched X).duties (cell c (some k)) 0 \ ∅) (fun d => (sched X).payload (cell c (some k)) 0 d) = keyPay X c k := by
  rw [Finset.sdiff_empty, duties_key, bigSep_singleton, payload_key]

/-! ## Dues and levels -/

/-- What a device owes for a list of sends still to make. -/
def owe (c : Dev nD) : List (Fin 6 × Lane) → CellTallies nD τ sig Unit
  | [] => 0
  | p :: l => owe c l + tallyAt (cell (dst p.2.2 c) (some (kRecv p.1 p.2))) () N
/-- The sends of a list of hops, in order. -/
def hopDues (hs : List (Fin 6)) : List (Fin 6 × Lane) := hs.flatMap fun h => lanes.map (Prod.mk h)
/-- All of them. -/
abbrev allDues : List (Fin 6 × Lane) := hopDues [0, 1, 2, 3, 4, 5]
/-- What a device owes at launch: its sends and its two signals. -/
def O₀ (c : Dev nD) : CellTallies nD τ sig Unit :=
  owe c allDues + tallyAt (cell (dst 1 c) none) () 1 + tallyAt (cell (dst 0 c) none) () 1

/-- Where the dues of a list of sends lie. -/
theorem owe_pos {c : Dev nD} {l : List (Fin 6 × Lane)} {g : GSem nD τ sig} {u : Unit} (h : 0 < owe c l g u) :
    ∃ p ∈ l, g = cell (dst p.2.2 c) (some (kRecv p.1 p.2)) := by
  induction l with
  | nil => exact absurd h (Nat.lt_irrefl 0)
  | cons p l ih =>
    rw [owe, Pi.add_apply, Finsupp.add_apply] at h
    rcases Nat.add_pos_iff_pos_or_pos.mp h with h | h
    · obtain ⟨q, hq, e⟩ := ih h
      exact ⟨q, List.mem_cons_of_mem _ hq, e⟩
    · exact ⟨p, List.mem_cons_self, (Pipeline.tallyAt_pos h).1⟩

def L (g : GSem nD τ sig) : Finset Unit := if g.1.2 = .tc then {()} else ∅
/-- A key's level: a receive's rises with its hop. -/
def keyLev : Key → ℕ
  | .inr (.inl (h, _)) => h.val + 2
  | _ => 0
/-- The barrier is at level 1. -/
def lv (g : GSem nD τ sig) (_ : Unit) : ℕ := match g.2 with
  | .reg _ => 1
  | .dma s => keyLev (keyOf s)

theorem L_of_ne (g : GSem nD τ sig) (h : g.1.2 ≠ .tc) : L g = ∅ := if_neg h
theorem L_cell (c : Dev nD) (o : Option Key) : () ∈ L (cell c o) := by
  unfold L; rw [if_pos rfl]; exact Finset.mem_singleton_self _
theorem lv_key (c : Dev nD) (k : Key) : lv (cell c (some k)) () = keyLev k := by
  dsimp only [lv, semOf]; rw [keyOf_dsem]
theorem lv_bar (c : Dev nD) : lv (cell c none) () = 1 := rfl

omit [FloatOps F] in
/-- A device may wait at a cell whose level is below all the sends it still owes. -/
theorem mayWait (c : Dev nD) (o : Option Key) (l : List (Fin 6 × Lane)) (hl : ∀ p ∈ l, lv (cell c o) () < p.1.val + 2) :
    (levAts L lv : sProp 𝕄) ⊢ MayWait (c : Thread nD τ) (semOf o) () (owe c l) :=
  Pipeline.mayWait_of_levAts (L_cell c o) fun g u hg => by
    obtain ⟨p, hp, rfl⟩ := owe_pos hg
    refine ⟨L_cell _ _, ?_⟩
    show lv (cell c o) () < lv (cell _ (some _)) ()
    rw [lv_key]; exact hl p hp

/-- The sends of the hops after a list begins. -/
theorem mem_dues {h : Fin 6} {l : List Lane} {hs : List (Fin 6)} {p : Fin 6 × Lane} (hp : p ∈ l.map (Prod.mk h) ++ hopDues hs) :
    p.1 ∈ h :: hs := by
  rcases List.mem_append.mp hp with hp | hp
  · obtain ⟨x, -, rfl⟩ := List.mem_map.mp hp; exact List.mem_cons_self
  · obtain ⟨h', hh, hp⟩ := List.mem_flatMap.mp hp
    obtain ⟨x, -, rfl⟩ := List.mem_map.mp hp; exact List.mem_cons_of_mem _ hh

/-! ## The records -/

/-- All cells' invariants, under the names they were allocated at, and that all are at round 0: knowledge every device shares. -/
def recs (K : Dev nD × Option Key → ℕ) : sProp 𝕄 :=
  bigSep Finset.univ fun p : Dev nD × Option Key =>
    iprop(cellInv ER (sched X) (K p) (cell p.1 p.2) ∗ reached ER (cell p.1 p.2) 0)
instance recs_persistent (K) : BI.Persistent (recs (F := F) X K) := by unfold recs; infer_instance
/-- One cell's record. -/
theorem recs_at (K : Dev nD × Option Key → ℕ) (c : Dev nD) (o : Option Key) :
    recs X K ⊢ iprop(cellInv ER (sched X) (K (c, o)) (cell c o) ∗ reached ER (cell c o) 0) := by
  unfold recs; exact bigSep_elim (Finset.mem_univ (c, o))

end Cert.KernelIdeal.Hop
-- ==== Proof.Steps.lean ====
/-
  One rule for each kind of step of the body: what it takes and what it leaves. Here: the waits.
-/
module

public import proofs.«01_k».proof.Proof.Protocol
public import Idealize.ShloMosaic.Lib.Pipeline.BigSepL

@[expose] public section

set_option maxRecDepth 65536

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Arr F) (K : Dev nD × Option Key → ℕ)

abbrev 𝒱₀ : Variants := Variants.none

/-- A program of device `c`'s core run to a postcondition. -/
abbrev WP (c : Dev nD) {α : Type} (p : Pg F α) (Q : α → sProp 𝕄) : sProp 𝕄 :=
  wp frame (wpE (defs₀ (F := F)) 𝒱₀ (c : Thread nD τ) none) Set.univ p Q

/-- What every step may use: the cells' records and the levels. -/
def ctx : sProp 𝕄 := iprop(recs X K ∗ levAts L lv)
instance ctx_persistent : BI.Persistent (ctx (F := F) X K) := by unfold ctx; infer_instance

/-- A device owing a list of sends. -/
def ows (c : Dev nD) (l : List (Fin 6 × Lane)) : sProp 𝕄 := iprop(∃ W, owes (c : Thread nD τ) (owe c l) W)
/-- The right to pay a transfer semaphore's one duty. -/
def tok (c : Dev nD) (k : Key) : sProp 𝕄 := dutyTok ER (cell c (some k)) 0 0
/-- A transfer semaphore not yet waited on. -/
def pos (c : Dev nD) (k : Key) : sProp 𝕄 := atPos ER (cell c (some k)) 0 ∅ 0
/-- The credit with which to wait on it. -/
def crd (c : Dev nD) (k : Key) : sProp 𝕄 := cred (tallyAt (cell c (some k)) () (keyAmt k))
/-- A transfer semaphore at zero, done with. -/
def zed (c : Dev nD) (k : Key) : sProp 𝕄 := semVal (cell c (some k)) 0

/-- A cell's invariant and its first round. -/
theorem ctx_at (c : Dev nD) (o : Option Key) :
    ctx X K ⊢ iprop(cellInv ER (sched X) (K (c, o)) (cell c o) ∗ reached ER (cell c o) 0) := by
  unfold ctx; iintro ⟨H, -⟩; iapply (recs_at X K c o) $$ H

/-- `rest_key` at the semaphore spelt out. -/
theorem rest_key' (c : Dev nD) (k : Key) :
    bigSep ((sched X).duties ((c : Thread nD τ), SemLoc.dma (dsem k)) 0 \ ∅)
      (fun d => (sched X).payload ((c : Thread nD τ), SemLoc.dma (dsem k)) 0 d) = keyPay X c k := rest_key X c k

/-! ## Waiting -/

/-- Waiting on a transfer semaphore: its payload comes and the semaphore is done with. -/
theorem wp_wait_key (c : Dev nD) (k : Key) (l : List (Fin 6 × Lane)) (hl : ∀ p ∈ l, keyLev k < p.1.val + 2)
    {w : TpuEff nD τ sig (Elt F) Λ₀ .tc PUnit}
    (hw : ∀ Kt : PUnit → sProp 𝕄, wpE (defs₀ (F := F)) 𝒱₀ (c : Thread nD τ) none Set.univ w Kt
      = waitSpec (c : Thread nD τ) Set.univ (.dma (dsem k)) (keyAmt k) Kt)
    {α : Type} {κ : PUnit → Pg F α} {Q : α → sProp 𝕄} :
    iprop(ctx X K ∗ pos c k ∗ crd c k ∗ ows c l)
      ⊢ iprop(((ows c l ∗ keyPay X c k ∗ zed c k) -∗ WP c (κ ⟨⟩) Q) -∗ WP c (.op w κ) Q) := by
  unfold pos crd ows zed
  iintro ⟨#HC, Hat, Hc, ⟨%W, HO⟩⟩ Hk
  ihave HR := (ctx_at X K c (some k)) $$ HC
  icases HR with ⟨#HI, -⟩
  iapply (Rounds.wp_wait_rest_token 𝒱₀ ER (sched X) (c : Thread nD τ) none (κ := K (c, some k))
      hw (Set.mem_univ _) () (O := owe c l) (W := W) (R := 0) (m := 0) (T := ∅)
      ((Nat.zero_add _).trans (expect_key X c k).symm)) $$ [Hc HO Hat]
  · isplitr; · iexact HI
    isplitl [Hc]; · iexact Hc
    isplitl [HO]; · iexact HO
    isplitr
    · unfold ctx; icases HC with ⟨-, HL⟩
      iapply (mayWait c (some k) l (by rw [lv_key]; exact hl)) $$ HL
    iexact Hat
  iintro ⟨HO, Hat, -, Hpay⟩
  ihave Hp := (Entails.of_eq (rest_key' X c k)) $$ Hpay
  imod (Rounds.cell_close ER (sched X) (Set.mem_univ (K (c, some k))) (fun h => h) (R := 0 + 1) (duties_later X (cell c (some k)))) $$ [Hat] with Hz
  · isplitr; · iexact HI
    iexact Hat
  iapply Hk
  isplitl [HO]; · iexists _; iexact HO
  isplitl [Hp]; · iexact Hp
  iexact Hz

/-- Waiting for a block to arrive. -/
theorem wp_recv (c : Dev nD) (g : Fin 6) (x : Lane) (l : List (Fin 6 × Lane)) (hl : ∀ p ∈ l, g.val < p.1.val)
    {α : Type} {κ : PUnit → Pg F α} {Q : α → sProp 𝕄} :
    iprop(ctx X K ∗ pos c (kRecv g x) ∗ crd c (kRecv g x) ∗ ows c l)
      ⊢ iprop(((ows c l ∗ recvPay X c x g ∗ zed c (kRecv g x)) -∗ WP c (κ ⟨⟩) Q) -∗ WP c (recvStep c g x >>= κ) Q) := by
  rw [Prog.bind_lift]
  exact wp_wait_key X K c (kRecv g x) l (fun p hp => by have := hl p hp; show g.val + 2 < _; omega) (fun _ => rfl)
/-- Waiting for a half chunk to be staged. -/
theorem wp_staged (c : Dev nD) (d : Fin 2) (g : Fin 3) (l : List (Fin 6 × Lane))
    {α : Type} {κ : PUnit → Pg F α} {Q : α → sProp 𝕄} :
    iprop(ctx X K ∗ pos c (kCopy d g) ∗ crd c (kCopy d g) ∗ ows c l)
      ⊢ iprop(((ows c l ∗ copyPay X c d g ∗ zed c (kCopy d g)) -∗ WP c (κ ⟨⟩) Q) -∗ WP c (stagedStep c d g >>= κ) Q) := by
  rw [Prog.bind_lift]
  exact wp_wait_key X K c (kCopy d g) l (fun p hp => Nat.succ_pos _) (fun _ => rfl)
/-- Waiting for a finished block to be in the result. -/
theorem wp_flushed (c : Dev nD) (g : Fin 6) (k : Fin 4) (x : Lane) (l : List (Fin 6 × Lane))
    {α : Type} {κ : PUnit → Pg F α} {Q : α → sProp 𝕄} :
    iprop(ctx X K ∗ pos c (kOut k x) ∗ crd c (kOut k x) ∗ ows c l)
      ⊢ iprop(((ows c l ∗ outPay X c x k ∗ zed c (kOut k x)) -∗ WP c (κ ⟨⟩) Q) -∗ WP c (flushedStep c g k x >>= κ) Q) := by
  rw [Prog.bind_lift]
  exact wp_wait_key X K c (kOut k x) l (fun p hp => Nat.succ_pos _) (fun _ => rfl)
/-- Waiting for the first hop's source to have been read. -/
theorem wp_sentX (c : Dev nD) (x : Lane) (l : List (Fin 6 × Lane))
    {α : Type} {κ : PUnit → Pg F α} {Q : α → sProp 𝕄} :
    iprop(ctx X K ∗ pos c (kSend 0 x) ∗ crd c (kSend 0 x) ∗ ows c l)
      ⊢ iprop(((ows c l ∗ sendPay X c x 0 ∗ zed c (kSend 0 x)) -∗ WP c (κ ⟨⟩) Q) -∗ WP c (sentXStep c x >>= κ) Q) := by
  rw [Prog.bind_lift]
  exact wp_wait_key X K c (kSend 0 x) l (fun p hp => Nat.succ_pos _) (fun _ => rfl)
/-- Waiting for a later hop's source to have been read. -/
theorem wp_sent (c : Dev nD) (h : Fin 6) (x : Lane) (l : List (Fin 6 × Lane))
    {α : Type} {κ : PUnit → Pg F α} {Q : α → sProp 𝕄} :
    iprop(ctx X K ∗ pos c (kSend h x) ∗ crd c (kSend h x) ∗ ows c l)
      ⊢ iprop(((ows c l ∗ sendPay X c x h ∗ zed c (kSend h x)) -∗ WP c (κ ⟨⟩) Q) -∗ WP c (sentStep c h x >>= κ) Q) := by
  rw [Prog.bind_lift]
  exact wp_wait_key X K c (kSend h x) l (fun p hp => Nat.succ_pos _) (fun _ => rfl)

end Cert.KernelIdeal.Hop
-- ==== Proof.StepsLocal.lean ====
/-
  One rule for each kind of step of the body: what it takes and what it leaves. Here: the local copies and the addition.
-/
module

public import proofs.«01_k».proof.Proof.Steps
public import Idealize.ShloMosaic.Lib.Pipeline.BigSepL

@[expose] public section

set_option maxRecDepth 65536

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Arr F) (K : Dev nD × Option Key → ℕ)

/-- The amount of a block copied to the result. -/
theorem amt_O (k : Fin 4) (x : Lane) (s : DmaSem sig) : (cut oM (blk k x)).view.amount (.dma s) = N := rfl
/-- The amount of a half chunk staged. -/
theorem amt_S (d : Fin 2) (g : Fin 3) (s : DmaSem sig) : (slot d g).view.amount (.dma s) = N4 := rfl

/-! ## Local copies -/

/-- The copy of a half chunk into the stage. -/
abbrev stageO (d : Fin 2) (g : Fin 3) (o : Sec4) : Pg F PUnit :=
  Prog.lift (.enqueueDma (cut4 o) (.here (slot d g)) (.dma (copyS d g)) (View.wordExact_bits rfl)
    ((View.wordExact_bits rfl).reshape _ _) ⟨Or.inl rfl, trivial⟩)
/-- The copy of a block to the result. -/
abbrev flushO (k : Fin 4) (x : Lane) (o : Sec) : Pg F PUnit :=
  Prog.lift (.enqueueDma (cut bM o) (.here (cut oM o)) (.dma (outS k x)) (View.wordExact_bits rfl)
    (View.wordExact_bits rfl) ⟨Or.inl rfl, trivial⟩)
/-- The addition into a block. -/
abbrev addO (g : Fin 3) (x : Lane) (o : Sec) : Pg F PUnit :=
  (Prog.lift (.load bM (blkR o).toLoadRect (View.loadsAt_vmem h_S512x512)) : Pg F (Vec F S512x512 .f32)) >>= fun v =>
  (Prog.lift (.load sM (slotR x g).toLoadRect (View.loadsAt_vmem h_S1x1x512x512)) : Pg F (Vec F S1x1x512x512 .f32)) >>= fun w =>
  (Prog.lift (.load bM (blkR o).toLoadRect (View.loadsAt_vmem h_S512x512)) : Pg F (Vec F S512x512 .f32)) >>= fun _ =>
  Prog.lift (.store bM (blkR o)
    (shapeCast S512x512 (addf v (flat w)) shapeCasts_S512x512_S512x512) Finset.univ (View.stores_vmem_bits_univ h_S512x512 rfl) (.inl rfl))

theorem stageStep_eq (c : Dev nD) (d : Fin 2) (g : Fin 3) : (stageStep c d g : Pg F PUnit) = stageO d g (half (recvC d c g) d) :=
  congrArg (stageO d g) (stO_eq c g d)
theorem flushStep_eq (c : Dev nD) (g : Fin 6) (k : Fin 4) (x : Lane) : (flushStep c g k x : Pg F PUnit) = flushO k x (blk (recvC x.2 c g) x) :=
  congrArg (flushO k x) (recvO_eq c g x)
theorem addStep_eq (c : Dev nD) (g : Fin 3) (x : Lane) : (addStep c g x : Pg F PUnit) = addO g x (blk (recvC x.2 c g) x) :=
  congrArg (addO g x) (ldO_eq c g x)

/-- What a stage copy leaves is its semaphore's payload. -/
theorem stage_pays (c : Dev nD) (d : Fin 2) (g : Fin 3) (f : Stg F) :
    iprop(slotP c d g (slotW (recvC d c g) d g f (X c)) ∗ xH X c (recvC d c g) d) ⊢ (sched X).payload (cell c (some (kCopy d g))) 0 0 := by
  rw [payload_key]
  show _ ⊢ copyPay X c d g
  unfold copyPay slotF
  iintro ⟨H1, H2⟩
  isplitl [H1]; · iexists f; iexact H1
  iexact H2

/-- Starting a stage copy. -/
theorem wp_stage (c : Dev nD) (d : Fin 2) (g : Fin 3) {α : Type} {κ : PUnit → Pg F α} {Q : α → sProp 𝕄} :
    iprop(ctx X K ∗ tok c (kCopy d g) ∗ xH X c (recvC d c g) d ∗ (∃ f, slotP c d g f))
      ⊢ iprop((crd c (kCopy d g) -∗ WP c (κ ⟨⟩) Q) -∗ WP c (stageStep c d g >>= κ) Q) := by
  rw [stageStep_eq, Prog.bind_lift]
  have hpay := stage_pays X c d g
  unfold tok crd xH slotP at *
  iintro ⟨#HC, Ht, Hx, ⟨%f, Hs⟩⟩ Hk
  ihave HR := (ctx_at X K c (some (kCopy d g))) $$ HC
  icases HR with ⟨#HI, #Hr⟩
  iapply (Rounds.wp_copy_pointsTo 𝒱₀ ER (sched X) (c : Thread nD τ) none (κ := K (c, some (kCopy d g))) (r := 0) (d := 0)
      (mem_key X c (kCopy d g)) () N4 (amt_S d g _) (amount_key X c (kCopy d g) 0) (hpay f)) $$ [Ht Hx Hs]
  · isplitr; · iexact HI
    isplitl [Hx]; · iexact Hx
    isplitl [Hs]; · iexact Hs
    isplitl [Ht]; · iexact Ht
    iexact Hr
  iexact Hk

/-- What a copy to the result leaves is its semaphore's payload. -/
theorem flush_pays (c : Dev nD) (g : Fin 6) (k : Fin 4) (hg : g.val = k.val + 2) (x : Lane) (f : Arr F) :
    iprop(oB c (recvC x.2 c g) x ((cut oM (blk (recvC x.2 c g) x)).view.write (Elt F) f
        ((cut bM (blk (recvC x.2 c g) x)).view.read (Elt F) (acc X 3)) Finset.univ)
      ∗ bP c (recvC x.2 c g) x fullShare.right (acc X 3)) ⊢ (sched X).payload (cell c (some (kOut k x))) 0 0 := by
  rw [payload_key]
  show _ ⊢ outPay X c x k
  unfold outPay oB
  rw [← hg]
  exact sep_mono_left (Entails.of_eq (pointsTo_congr fun i hi => write_BO (recvC x.2 c g) x f (acc X 3) i (by rw [← set_cutO]; exact hi)))

/-- Starting a finished block's copy to the result. -/
theorem wp_flush (c : Dev nD) (g : Fin 6) (k : Fin 4) (hg : g.val = k.val + 2) (x : Lane) {α : Type} {κ : PUnit → Pg F α} {Q : α → sProp 𝕄} :
    iprop(ctx X K ∗ tok c (kOut k x) ∗ bP c (recvC x.2 c g) x fullShare.right (acc X 3) ∗ (∃ f, oB c (recvC x.2 c g) x f))
      ⊢ iprop((crd c (kOut k x) -∗ WP c (κ ⟨⟩) Q) -∗ WP c (flushStep c g k x >>= κ) Q) := by
  rw [flushStep_eq, Prog.bind_lift]
  have hpay := flush_pays X c g k hg x
  unfold tok crd bP oB at *
  iintro ⟨#HC, Ht, Hx, ⟨%f, Hs⟩⟩ Hk
  ihave HR := (ctx_at X K c (some (kOut k x))) $$ HC
  icases HR with ⟨#HI, #Hr⟩
  iapply (Rounds.wp_copy_pointsTo 𝒱₀ ER (sched X) (c : Thread nD τ) none (κ := K (c, some (kOut k x))) (r := 0) (d := 0)
      (mem_key X c (kOut k x)) () N (amt_O _ x _) (amount_key X c (kOut k x) 0) (hpay f)) $$ [Ht Hx Hs]
  · isplitr; · iexact HI
    isplitl [Hx]; · iexact Hx
    isplitl [Hs]; · iexact Hs
    isplitl [Ht]; · iexact Ht
    iexact Hr
  iexact Hk

/-! ## Adding -/

/-- What the addition leaves in a block is the next partial sum. -/
theorem add_leaves (c : Dev nD) (g : Fin 3) (x : Lane) (fd : Stg F) (i : S8192x1024.Idx)
    (hi : i ∈ (cut bM (blk (recvC x.2 c g) x)).view.set) :
    (bM.access (blkR (blk (recvC x.2 c g) x))).write (Elt F) (acc X g.castSucc)
      (shapeCast S512x512 (addf (bM.view.readAt (Elt F) (blkR (blk (recvC x.2 c g) x)).toLoadRect (acc X g.castSucc))
        (flat (sM.view.readAt (Elt F) (slotR x g).toLoadRect
          ((slot x.2 g).view.write (Elt F) fd ((cut4 (half (recvC x.2 c g) x.2)).view.read (Elt F) (X c)) Finset.univ))))
        shapeCasts_S512x512_S512x512) Finset.univ i = acc X g.succ i := by
  rw [set_cutB] at hi
  rw [store_add (recvC x.2 c g) x g fd (X c) (acc X g.castSucc) i hi]
  exact acc_succ X c g x i hi

/-- Adding the staged input to what arrived. -/
theorem wp_add (c : Dev nD) (g : Fin 3) (x : Lane) {α : Type} {κ : PUnit → Pg F α} {Q : α → sProp 𝕄} :
    iprop(slotF X c x.2 g ∗ bP c (recvC x.2 c g) x fullShare (acc X g.castSucc))
      ⊢ iprop(((slotF X c x.2 g ∗ bP c (recvC x.2 c g) x fullShare (acc X g.succ)) -∗ WP c (κ ⟨⟩) Q) -∗ WP c (addStep c g x >>= κ) Q) := by
  rw [addStep_eq]
  simp only [Prog.bind_assoc, Prog.bind_lift]
  unfold slotF slotP slotW bP
  iintro ⟨⟨%fd, Hs⟩, Hb⟩ Hk
  iapply (wp_load 𝒱₀ (c : Thread nD τ) none Set.univ (m := bM) (by rw [set_cutB]; exact load_sub _ _)) $$ Hb; iintro Hb
  iapply (wp_load 𝒱₀ (c : Thread nD τ) none Set.univ (m := sM) (slot_sub x g)) $$ Hs; iintro Hs
  iapply (wp_load 𝒱₀ (c : Thread nD τ) none Set.univ (m := bM) (by rw [set_cutB]; exact load_sub _ _)) $$ Hb; iintro Hb
  iapply (wp_store 𝒱₀ (c : Thread nD τ) none Set.univ (m := bM) (r := blkR (blk (recvC x.2 c g) x)) (Mk := Finset.univ)
    (S := (cut bM (blk (recvC x.2 c g) x)).view.set) (by rw [set_cutB]; exact store_sub _ _)) $$ Hb; iintro Hb
  iapply Hk
  isplitl [Hs]; · iexists fd; iexact Hs
  rw [pointsTo_congr (add_leaves X c g x fd)]
  exact .rfl

end Cert.KernelIdeal.Hop
-- ==== Proof.StepsSend.lean ====
/-
  One rule for each kind of step of the body: what it takes and what it leaves. Here: the sends.
-/
module

public import proofs.«01_k».proof.Proof.Steps
public import Idealize.ShloMosaic.Lib.Pipeline.BigSepL

@[expose] public section

set_option maxRecDepth 65536

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Arr F) (K : Dev nD × Option Key → ℕ)

/-- The amount of a block sent to a buffer. -/
theorem amt_B (k : Fin 4) (x : Lane) (s : DmaSem sig) : (cut bM (blk k x)).view.amount (.dma s) = N := rfl
/-- A send pays one due. -/
theorem owe_cons (c : Dev nD) (h : Fin 6) (x : Lane) (l : List (Fin 6 × Lane)) :
    owe c ((h, x) :: l) = owe c l + tallyAt ((dst x.2 c : Thread nD τ), SemLoc.dma (recvS h x)) () N := rfl

/-! ## Sending -/

/-- The send of a block of the input. -/
abbrev sendXO (c : Dev nD) (x : Lane) (o : Sec) : Pg F PUnit :=
  Prog.lift (.enqueueDma (cut xM o) (.remote (Dev.tc (dst x.2 c)) (cut bM o) (.dma (sendS 0 x)))
    (.dma (recvS 0 x)) (View.wordExact_bits rfl) (View.wordExact_bits rfl) ⟨⟨rfl, Or.inl rfl⟩, trivial⟩)
/-- The send of a block of the buffer. -/
abbrev sendBO (c : Dev nD) (h : Fin 6) (x : Lane) (o : Sec) : Pg F PUnit :=
  Prog.lift (.enqueueDma (cut bM o) (.remote (Dev.tc (dst x.2 c)) (cut bM o) (.dma (sendS h x)))
    (.dma (recvS h x)) (View.wordExact_bits rfl) (View.wordExact_bits rfl) ⟨⟨rfl, Or.inl rfl⟩, trivial⟩)

theorem sendXStep_eq (c : Dev nD) (x : Lane) : (sendXStep c x : Pg F PUnit) = sendXO c x (blk (sendC x.2 c 0) x) :=
  congrArg (sendXO c x) (sendO_eq c 0 x)
theorem sendStep_eq (c : Dev nD) (h : Fin 6) (x : Lane) : (sendStep c h x : Pg F PUnit) = sendBO c h x (blk (sendC x.2 c h) x) :=
  congrArg (sendBO c h x) (sendO_eq c h x)

/-- A written block with the permissions travelling along is what the neighbour receives. -/
theorem recv_pays (c : Dev nD) (h : Fin 6) (x : Lane) (es : List (Dev nD)) (hes : extL x.2 (dst x.2 c) h = es) (f : Arr F)
    (hf : ∀ i ∈ BlkS (sendC x.2 c h) x, f i = accAt X h i) :
    iprop(bP (dst x.2 c) (sendC x.2 c h) x fullShare f ∗ exts es (sendC x.2 c h) x)
      ⊢ (sched X).payload (cell (dst x.2 c) (some (kRecv h x))) 0 0 := by
  rw [payload_key]
  show _ ⊢ recvPay X (dst x.2 c) x h
  unfold recvPay
  rw [recvC_dst, hes]
  refine sep_mono_left (Entails.of_eq ?_)
  unfold bP
  exact pointsTo_congr fun i hi => hf i (by rw [← set_cutB]; exact hi)

/-- The first hop: a block of the input is sent. -/
theorem wp_sendX (c : Dev nD) (x : Lane) (l : List (Fin 6 × Lane)) {α : Type} {κ : PUnit → Pg F α} {Q : α → sProp 𝕄} :
    iprop(ctx X K ∗ tok c (kSend 0 x) ∗ tok (dst x.2 c) (kRecv 0 x) ∗ xB X c (sendC x.2 c 0) x
        ∗ (∃ f, bP (dst x.2 c) (sendC x.2 c 0) x fullShare f) ∗ ows c ((0, x) :: l))
      ⊢ iprop(((crd c (kSend 0 x) ∗ ows c l) -∗ WP c (κ ⟨⟩) Q) -∗ WP c (sendXStep c x >>= κ) Q) := by
  rw [sendXStep_eq, Prog.bind_lift]
  have hpay₂ := fun fd : Arr F => recv_pays X c 0 x [] (by generalize x.2 = d; revert d c; decide +kernel) _ fun i hi =>
    (write_XB (sendC x.2 c 0) x fd (X c) i hi).trans (acc_zero X c x i hi)
  have hpay₁ : xB X c (sendC x.2 c 0) x ⊢ (sched X).payload (cell c (some (kSend 0 x))) 0 0 := by
    rw [payload_key]; exact .rfl
  unfold tok crd ows
  unfold bP at hpay₂ ⊢
  unfold xB at hpay₁ ⊢
  iintro ⟨#HC, Ht1, Ht2, Hx, ⟨%fd, Hd⟩, ⟨%W, HO⟩⟩ Hk
  ihave HR := (ctx_at X K c (some (kSend 0 x))) $$ HC
  icases HR with ⟨#HI1, #Hr1⟩
  ihave HR := (ctx_at X K (dst x.2 c) (some (kRecv 0 x))) $$ HC
  icases HR with ⟨#HI2, #Hr2⟩
  have hstep := Rounds.wp_send_pointsTo_with 𝒱₀ ER (sched X) (c : Thread nD τ) none (c' := (dst x.2 c : Thread nD τ))
      (src := cut xM (blk (sendC x.2 c 0) x)) (dst := cut bM (blk (sendC x.2 c 0) x)) (sS := .dma (sendS 0 x)) (sem := .dma (recvS 0 x))
      (hsc := rfl) (hsrc := View.wordExact_bits rfl) (hdst := View.wordExact_bits rfl) (hsem := ⟨⟨rfl, Or.inl rfl⟩, trivial⟩)
      (defs := defs₀ (F := F)) (Γ := .empty) (k := κ) (Q := Q) (Es := Set.univ)
      (κ₁ := K (c, some (kSend 0 x))) (κ₂ := K (dst x.2 c, some (kRecv 0 x))) (r₁ := 0) (r₂ := 0) (d₁ := 0) (d₂ := 0) (fd := fd)
      (F := exts [] (sendC x.2 c 0) x)
      (mem_key X c (kSend 0 x)) (mem_key X (dst x.2 c) (kRecv 0 x)) () () N (amt_B _ x _)
      (amount_key X c (kSend 0 x) 0) (amount_key X (dst x.2 c) (kRecv 0 x) 0) (owe c l) (owe_cons c 0 x l) (W := W)
      hpay₁ (hpay₂ fd)
  iapply hstep $$ [Ht1 Ht2 Hx Hd HO]
  · isplitr; · iexact HI1
    isplitr; · iexact HI2
    isplitl [Hx]; · iexact Hx
    isplitl [Hd]
    · isplitl [Hd]; · iexact Hd
      unfold exts; rw [bigSepL_nil]
      iempintro
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- A later hop that leaves its source behind. -/
theorem wp_send_keep (c : Dev nD) (h : Fin 6) (x : Lane) (l : List (Fin 6 × Lane)) (es : List (Dev nD))
    (hes : extL x.2 (dst x.2 c) h = es) (hs : sendPay X c x h = bP c (sendC x.2 c h) x fullShare.left (accAt X h))
    {α : Type} {κ : PUnit → Pg F α} {Q : α → sProp 𝕄} :
    iprop(ctx X K ∗ tok c (kSend h x) ∗ tok (dst x.2 c) (kRecv h x) ∗ bP c (sendC x.2 c h) x fullShare.left (accAt X h)
        ∗ (∃ f, bP (dst x.2 c) (sendC x.2 c h) x fullShare f) ∗ exts es (sendC x.2 c h) x ∗ ows c ((h, x) :: l))
      ⊢ iprop(((crd c (kSend h x) ∗ ows c l) -∗ WP c (κ ⟨⟩) Q) -∗ WP c (sendStep c h x >>= κ) Q) := by
  rw [sendStep_eq, Prog.bind_lift]
  have hpay₂ := fun fd : Arr F => recv_pays X c h x es hes _ fun i hi => write_BB (sendC x.2 c h) x fd (accAt X h) i hi
  have hpay₁ : bP c (sendC x.2 c h) x fullShare.left (accAt X h) ⊢ (sched X).payload (cell c (some (kSend h x))) 0 0 := by
    rw [payload_key, ← hs]; exact .rfl
  unfold tok crd ows
  unfold bP at hpay₁ hpay₂ ⊢
  iintro ⟨#HC, Ht1, Ht2, Hx, ⟨%fd, Hd⟩, HF, ⟨%W, HO⟩⟩ Hk
  ihave HR := (ctx_at X K c (some (kSend h x))) $$ HC
  icases HR with ⟨#HI1, #Hr1⟩
  ihave HR := (ctx_at X K (dst x.2 c) (some (kRecv h x))) $$ HC
  icases HR with ⟨#HI2, #Hr2⟩
  have hstep := Rounds.wp_send_pointsTo_with 𝒱₀ ER (sched X) (c : Thread nD τ) none (c' := (dst x.2 c : Thread nD τ))
      (src := cut bM (blk (sendC x.2 c h) x)) (dst := cut bM (blk (sendC x.2 c h) x)) (sS := .dma (sendS h x)) (sem := .dma (recvS h x))
      (hsc := rfl) (hsrc := View.wordExact_bits rfl) (hdst := View.wordExact_bits rfl) (hsem := ⟨⟨rfl, Or.inl rfl⟩, trivial⟩)
      (defs := defs₀ (F := F)) (Γ := .empty) (k := κ) (Q := Q) (Es := Set.univ)
      (κ₁ := K (c, some (kSend h x))) (κ₂ := K (dst x.2 c, some (kRecv h x))) (r₁ := 0) (r₂ := 0) (d₁ := 0) (d₂ := 0) (fd := fd)
      (F := exts es (sendC x.2 c h) x)
      (mem_key X c (kSend h x)) (mem_key X (dst x.2 c) (kRecv h x)) () () N (amt_B _ x _)
      (amount_key X c (kSend h x) 0) (amount_key X (dst x.2 c) (kRecv h x) 0) (owe c l) (owe_cons c h x l) (W := W)
      hpay₁ (hpay₂ fd)
  iapply hstep $$ [Ht1 Ht2 Hx Hd HF HO]
  · isplitr; · iexact HI1
    isplitr; · iexact HI2
    isplitl [Hx]; · iexact Hx
    isplitl [Hd HF]
    · isplitl [Hd]; · iexact Hd
      iexact HF
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- A later hop whose source travels along: its block may then be written by a neighbour. -/
theorem wp_send_give (c : Dev nD) (h : Fin 6) (x : Lane) (l : List (Fin 6 × Lane)) (es : List (Dev nD))
    (hes : extL x.2 (dst x.2 c) h = es ++ [c]) (hs : sendPay X c x h = iprop(emp))
    {α : Type} {κ : PUnit → Pg F α} {Q : α → sProp 𝕄} :
    iprop(ctx X K ∗ tok c (kSend h x) ∗ tok (dst x.2 c) (kRecv h x) ∗ bP c (sendC x.2 c h) x fullShare (accAt X h)
        ∗ (∃ f, bP (dst x.2 c) (sendC x.2 c h) x fullShare f) ∗ exts es (sendC x.2 c h) x ∗ ows c ((h, x) :: l))
      ⊢ iprop(((crd c (kSend h x) ∗ ows c l) -∗ WP c (κ ⟨⟩) Q) -∗ WP c (sendStep c h x >>= κ) Q) := by
  rw [sendStep_eq, Prog.bind_lift]
  have hpay₂ : ∀ fd : Arr F, iprop((bP (dst x.2 c) (sendC x.2 c h) x fullShare
        ((cut bM (blk (sendC x.2 c h) x)).view.write (Elt F) fd ((cut bM (blk (sendC x.2 c h) x)).view.read (Elt F) (accAt X h)) Finset.univ)
        ∗ exts es (sendC x.2 c h) x) ∗ bP c (sendC x.2 c h) x fullShare (accAt X h))
      ⊢ (sched X).payload (cell (dst x.2 c) (some (kRecv h x))) 0 0 := fun fd =>
    (show _ ⊢ iprop(bP (dst x.2 c) (sendC x.2 c h) x fullShare
        ((cut bM (blk (sendC x.2 c h) x)).view.write (Elt F) fd ((cut bM (blk (sendC x.2 c h) x)).view.read (Elt F) (accAt X h)) Finset.univ)
        ∗ exts (es ++ [c]) (sendC x.2 c h) x) by
      unfold exts
      rw [bigSepL_append, bigSepL_cons', bigSepL_nil]
      iintro ⟨⟨H1, H2⟩, H3⟩
      isplitl [H1]; · iexact H1
      isplitl [H2]; · iexact H2
      isplitl [H3]; · iexists (accAt X h); iexact H3
      iempintro).trans
    (recv_pays X c h x _ hes _ fun i hi => write_BB (sendC x.2 c h) x fd (accAt X h) i hi)
  have hpay₁ : (emp : sProp 𝕄) ⊢ (sched X).payload (cell c (some (kSend h x))) 0 0 := by
    rw [payload_key]; exact Entails.of_eq hs.symm
  unfold tok crd ows
  unfold bP at hpay₂ ⊢
  iintro ⟨#HC, Ht1, Ht2, Hx, ⟨%fd, Hd⟩, HF, ⟨%W, HO⟩⟩ Hk
  ihave HR := (ctx_at X K c (some (kSend h x))) $$ HC
  icases HR with ⟨#HI1, #Hr1⟩
  ihave HR := (ctx_at X K (dst x.2 c) (some (kRecv h x))) $$ HC
  icases HR with ⟨#HI2, #Hr2⟩
  have hstep := Rounds.wp_send_landing_pointsTo_with 𝒱₀ ER (sched X) (c : Thread nD τ) none (c' := (dst x.2 c : Thread nD τ))
      (src := cut bM (blk (sendC x.2 c h) x)) (dst := cut bM (blk (sendC x.2 c h) x)) (sS := .dma (sendS h x)) (sem := .dma (recvS h x))
      (hsc := rfl) (hsrc := View.wordExact_bits rfl) (hdst := View.wordExact_bits rfl) (hsem := ⟨⟨rfl, Or.inl rfl⟩, trivial⟩)
      (defs := defs₀ (F := F)) (Γ := .empty) (k := κ) (Q := Q) (Es := Set.univ)
      (κ₁ := K (c, some (kSend h x))) (κ₂ := K (dst x.2 c, some (kRecv h x))) (r₁ := 0) (r₂ := 0) (d₁ := 0) (d₂ := 0) (fd := fd)
      (F := exts es (sendC x.2 c h) x)
      (mem_key X c (kSend h x)) (mem_key X (dst x.2 c) (kRecv h x)) () () N (amt_B _ x _)
      (amount_key X c (kSend h x) 0) (amount_key X (dst x.2 c) (kRecv h x) 0) (owe c l) (owe_cons c h x l) (W := W)
      hpay₁ (hpay₂ fd)
  iapply hstep $$ [Ht1 Ht2 Hx Hd HF HO]
  · isplitr; · iexact HI1
    isplitr; · iexact HI2
    isplitl [Hx]; · iexact Hx
    isplitl [Hd HF]
    · isplitl [Hd]; · iexact Hd
      iexact HF
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

end Cert.KernelIdeal.Hop
-- ==== Proof.Lanes.lean ====
/-
  The phases of the body lane by lane: the meeting at the barrier, and for each loop what one turn takes and leaves.
-/
module

public import proofs.«01_k».proof.Proof.StepsLocal
public import proofs.«01_k».proof.Proof.StepsSend

@[expose] public section

set_option maxRecDepth 65536

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Arr F) (K : Dev nD × Option Key → ℕ)

/-! ## The barrier -/

/-- The right to pay a barrier's duty. -/
def tokB (c : Dev nD) (d : Fin 2) : sProp 𝕄 := dutyTok ER (cell c none) 0 d
/-- A barrier not yet waited on. -/
def posB (c : Dev nD) : sProp 𝕄 := atPos ER (cell c none) 0 ∅ 0
/-- The credit with which to wait on it. -/
def crdB (c : Dev nD) : sProp 𝕄 := cred (tallyAt (cell c none) () 2)
/-- A barrier at zero, done with. -/
def zedB (c : Dev nD) : sProp 𝕄 := semVal (cell c none) 0

/-- The half of a device's buffer that one direction fills. -/
def bufH (c : Dev nD) (d : Fin 2) : sProp 𝕄 :=
  bigSep (Finset.univ : Finset (Fin 4 × Fin 4)) fun p => iprop(∃ f, bP c p.1 (p.2, d) fullShare f)

theorem barPay_right (c : Dev nD) : (barPay (dst 0 c) 1 : sProp 𝕄) = bufH c 1 := by
  unfold barPay bufH; rw [dst_dst]
theorem barPay_left (c : Dev nD) : (barPay (dst 1 c) 0 : sProp 𝕄) = bufH c 0 := by
  unfold barPay bufH; rw [dst_dst']

/-- The meeting: each device lends its neighbours its buffer's halves. -/
theorem wp_meet (c : Dev nD) {W : Waits sig Unit} {α : Type} {κ : PUnit → Pg F α} {Q : α → sProp 𝕄} :
    iprop(ctx X K ∗ tokB (dst 0 c) 1 ∗ tokB (dst 1 c) 0 ∗ posB c ∗ crdB c ∗ bufH c 0 ∗ bufH c 1 ∗ owes (c : Thread nD τ) (O₀ c) W)
      ⊢ iprop(((ows c allDues ∗ bufH (dst 0 c) 0 ∗ bufH (dst 1 c) 1 ∗ zedB c) -∗ WP c (κ ⟨⟩) Q) -∗ WP c (meet c >>= κ) Q) := by
  unfold meet tokB posB crdB zedB O₀
  simp only [semSignalWord, semWaitWord, Prog.lift, Prog.bind_op, Prog.bind_ret, Prog.pure_eq_ret]
  have e0 : (sched X).payload ((dst 0 c : Thread nD τ), SemLoc.reg barS) 0 1 = bufH c 1 := (payload_bar X (dst 0 c) 1).trans (barPay_right c)
  have e1 : (sched X).payload ((dst 1 c : Thread nD τ), SemLoc.reg barS) 0 0 = bufH c 0 := (payload_bar X (dst 1 c) 0).trans (barPay_left c)
  have e2 : bigSep ((sched X).duties ((c : Thread nD τ), SemLoc.reg barS) 0 \ ∅) (fun d => (sched X).payload ((c : Thread nD τ), SemLoc.reg barS) 0 d)
    = iprop(barPay c 0 ∗ barPay c 1) := rest_bar X c
  iintro ⟨#HC, Ht0, Ht1, Hat, Hc, HB0, HB1, HO⟩ Hk
  ihave HR := (ctx_at X K (dst 0 c) none) $$ HC
  icases HR with ⟨#HI0, #Hr0⟩
  ihave HR := (ctx_at X K (dst 1 c) none) $$ HC
  icases HR with ⟨#HI1, #Hr1⟩
  ihave HR := (ctx_at X K c none) $$ HC
  icases HR with ⟨#HI, -⟩
  iapply (Rounds.wp_signal 𝒱₀ ER (sched X) (c : Thread nD τ) none (dst := (dst 0 c : Thread nD τ)) (κ := K (dst 0 c, none))
      (d := 1) (mem_bar X (dst 0 c) 1) ((amount_bar X (dst 0 c) 1).trans (by decide)) ()
      (owe c allDues + tallyAt (cell (dst 1 c) none) () 1) rfl) $$ [HO Ht0 HB1]
  · isplitr; · iexact HI0
    isplitl [HO]; · iexact HO
    isplitl [Ht0]; · iexact Ht0
    isplitl [HB1]; · rw [e0]; iexact HB1
    iexact Hr0
  iintro HO
  iapply (Rounds.wp_signal 𝒱₀ ER (sched X) (c : Thread nD τ) none (dst := (dst 1 c : Thread nD τ)) (κ := K (dst 1 c, none))
      (d := 0) (mem_bar X (dst 1 c) 0) ((amount_bar X (dst 1 c) 0).trans (by decide)) () (owe c allDues) rfl) $$ [HO Ht1 HB0]
  · isplitr; · iexact HI1
    isplitl [HO]; · iexact HO
    isplitl [Ht1]; · iexact Ht1
    isplitl [HB0]; · rw [e1]; iexact HB0
    iexact Hr1
  iintro HO
  iapply (Rounds.wp_wait_rest_token 𝒱₀ ER (sched X) (c : Thread nD τ) none (κ := K (c, none))
      (wpE_semWait_eq 𝒱₀ (c : Thread nD τ) none Set.univ) (Set.mem_univ _) () (O := owe c allDues) (W := W) (R := 0) (m := 0) (T := ∅)
      ((show 0 + (2#32).toNat = 2 by decide).trans (expect_bar X c).symm)) $$ [Hc HO Hat]
  · isplitr; · iexact HI
    isplitl [Hc]; · iexact Hc
    isplitl [HO]; · iexact HO
    isplitr
    · unfold ctx; icases HC with ⟨-, HL⟩
      iapply (mayWait c none allDues (fun p hp => by rw [lv_bar]; omega)) $$ HL
    iexact Hat
  iintro ⟨HO, Hat, -, Hpay⟩
  ihave Hp := (Entails.of_eq (e2)) $$ Hpay
  icases Hp with ⟨HP0, HP1⟩
  imod (Rounds.cell_close ER (sched X) (Set.mem_univ (K (c, none))) (fun h => h) (R := 0 + 1) (duties_later X (cell c none))) $$ [Hat] with Hz
  · isplitr; · iexact HI
    iexact Hat
  iapply Hk
  isplitl [HO]; · unfold ows; iexists _; iexact HO
  isplitl [HP0]; · unfold barPay bufH; iexact HP0
  isplitl [HP1]; · unfold barPay bufH; iexact HP1
  iexact Hz

/-! ## Loops -/

variable {A : Type} [Fintype A] [DecidableEq A]

/-- A loop over a list by what one turn takes and leaves. -/
theorem wp_each (c : Dev nD) (f : A → Pg F PUnit) (P R : A → sProp 𝕄) (C : sProp 𝕄) [BI.Persistent C] (J : List A → sProp 𝕄)
    (hstep : ∀ (x : A) (l : List A) {α : Type} (κ : PUnit → Pg F α) (Q : α → sProp 𝕄),
      iprop(C ∗ J (x :: l) ∗ P x) ⊢ iprop(((J l ∗ R x) -∗ WP c (κ ⟨⟩) Q) -∗ WP c (f x >>= κ) Q))
    {α : Type} (κ : PUnit → Pg F α) (Q : α → sProp 𝕄) (l : List A) :
    iprop(C ∗ J l ∗ bigSepL l P) ⊢ iprop(((J [] ∗ bigSepL l R) -∗ WP c (κ ⟨⟩) Q) -∗ WP c (each f l >>= κ) Q) := by
  induction l generalizing κ Q with
  | nil =>
    rw [bigSepL_nil, bigSepL_nil, show each f [] >>= κ = κ ⟨⟩ from rfl]
    iintro ⟨-, HJ, HE⟩ Hk
    iapply Hk
    isplitl [HJ]; · iexact HJ
    iexact HE
  | cons x l ih =>
    rw [bigSepL_cons', bigSepL_cons', show each f (x :: l) >>= κ = f x >>= fun _ => each f l >>= κ from Prog.bind_assoc _ _ _]
    iintro ⟨#HC, HJ, Hx, Hl⟩ Hk
    iapply (hstep x l (fun _ => each f l >>= κ) Q) $$ [HJ Hx]
    · isplitr; · iexact HC
      isplitl [HJ]; · iexact HJ
      iexact Hx
    iintro ⟨HJ, Hr⟩
    iapply (ih κ Q) $$ [HJ Hl]
    · isplitr; · iexact HC
      isplitl [HJ]; · iexact HJ
      iexact Hl
    iintro ⟨HJ, Hrs⟩
    iapply Hk
    isplitl [HJ]; · iexact HJ
    isplitl [Hr]; · iexact Hr
    iexact Hrs

/-- The same over all members of a type. -/
theorem wp_all (c : Dev nD) (l : List A) (h1 : Finset.univ = l.toFinset) (h2 : l.Nodup) (f : A → Pg F PUnit) (P R : A → sProp 𝕄)
    (C : sProp 𝕄) [BI.Persistent C] (J : List A → sProp 𝕄)
    (hstep : ∀ (x : A) (l : List A) {α : Type} (κ : PUnit → Pg F α) (Q : α → sProp 𝕄),
      iprop(C ∗ J (x :: l) ∗ P x) ⊢ iprop(((J l ∗ R x) -∗ WP c (κ ⟨⟩) Q) -∗ WP c (f x >>= κ) Q))
    {α : Type} (κ : PUnit → Pg F α) (Q : α → sProp 𝕄) :
    iprop(C ∗ J l ∗ bigSep Finset.univ P)
      ⊢ iprop(((J [] ∗ bigSep Finset.univ R) -∗ WP c (κ ⟨⟩) Q) -∗ WP c (each f l >>= κ) Q) := by
  rw [bigSep_univ_eq_bigSepL l h1 h2, bigSep_univ_eq_bigSepL l h1 h2]
  exact wp_each c f P R C J hstep κ Q l

/-! ## One turn of each loop -/

/-- The two slots of a hop, filled. -/
def slots (c : Dev nD) (g : Fin 3) : sProp 𝕄 := iprop(slotF X c 0 g ∗ slotF X c 1 g)
/-- A neighbour's block that may be written. -/
def room (c : Dev nD) (h : Fin 6) (x : Lane) : sProp 𝕄 := iprop(∃ f, bP (dst x.2 c) (sendC x.2 c h) x fullShare f)
/-- A block of the result that may be written. -/
def outRoom (c : Dev nD) (k : Fin 4) (x : Lane) : sProp 𝕄 := iprop(∃ f, oB c (recvC x.2 c (k.val + 2)) x f)

/-- The addition with both slots at hand. -/
theorem wp_add_slots (c : Dev nD) (g : Fin 3) (x : Lane) {α : Type} {κ : PUnit → Pg F α} {Q : α → sProp 𝕄} :
    iprop(slots X c g ∗ bP c (recvC x.2 c g) x fullShare (acc X g.castSucc))
      ⊢ iprop(((slots X c g ∗ bP c (recvC x.2 c g) x fullShare (acc X g.succ)) -∗ WP c (κ ⟨⟩) Q) -∗ WP c (addStep c g x >>= κ) Q) := by
  have hx : x.2 = 0 ∨ x.2 = 1 := by generalize x.2 = d; revert d; decide
  have hadd := wp_add X c g x (κ := κ) (Q := Q)
  unfold slots
  iintro ⟨⟨H0, H1⟩, Hb⟩ Hk
  rcases hx with hx | hx
  · iapply hadd $$ [H0 Hb]
    · isplitl [H0]; · rw [hx]; iexact H0
      iexact Hb
    iintro ⟨H0, Hb⟩
    iapply Hk
    isplitr [Hb]
    · isplitl [H0]; · rw [← hx]; iexact H0
      iexact H1
    iexact Hb
  · iapply hadd $$ [H1 Hb]
    · isplitl [H1]; · rw [hx]; iexact H1
      iexact Hb
    iintro ⟨H1, Hb⟩
    iapply Hk
    isplitr [Hb]
    · isplitl [H0]; · iexact H0
      rw [← hx]; iexact H1
    iexact Hb

/-- What arrives on a hop of the reduction. -/
theorem recvPay_add (c : Dev nD) (g : Fin 3) (x : Lane) : recvPay X c x (g.castLE (by decide))
    = iprop(bP c (recvC x.2 c g) x fullShare (acc X g.castSucc) ∗ exts (extL x.2 c (g.castLE (by decide))) (recvC x.2 c g) x) := by
  match g with
  | 0 => rfl
  | 1 => rfl
  | 2 => rfl

/-- What is sent on a hop of the reduction has one more summand. -/
theorem accAt_add (g : Fin 3) (h : Fin 6) (e : h.val = g.val + 1) : accAt X h = acc X g.succ := by
  rw [show h = ⟨g.val + 1, by omega⟩ from Fin.ext e]
  match g with
  | 0 => rfl
  | 1 => rfl
  | 2 => rfl
/-- From the turn on all summands are in. -/
theorem accAt_gather (h : Fin 6) (hh : 3 ≤ h.val) : accAt X h = acc X 3 := by
  have h3 : h = 3 ∨ h = 4 ∨ h = 5 := by revert h; decide
  rcases h3 with rfl | rfl | rfl <;> rfl
/-- The middle hops' sources travel along. -/
theorem sendPay_give (c : Dev nD) (x : Lane) (h : Fin 6) (h1 : 1 ≤ h.val) (h2 : h.val ≤ 2) : sendPay X c x h = iprop(emp) := by
  have h3 : h = 1 ∨ h = 2 := by revert h; decide
  rcases h3 with rfl | rfl <;> rfl
/-- The last hops' sources stay. -/
theorem sendPay_keep (c : Dev nD) (x : Lane) (h : Fin 6) (hh : 3 ≤ h.val) :
    sendPay X c x h = bP c (sendC x.2 c h) x fullShare.left (accAt X h) := by
  have h3 : h = 3 ∨ h = 4 ∨ h = 5 := by revert h; decide
  rcases h3 with rfl | rfl | rfl <;> rfl

/-- What arrived at one hop is sent at the next. -/
theorem sendC_next (d : Fin 2) (c : Dev nD) (g h : Fin 6) (e : h.val = g.val + 1) : sendC d c h = recvC d c g := by
  rw [e]; exact sendC_succ d c ⟨g.val, by omega⟩

/-- A turn of the first hop's loop. -/
theorem turn_sendX (c : Dev nD) (m : List (Fin 6 × Lane)) (x : Lane) (l : List Lane) {α : Type} (κ : PUnit → Pg F α) (Q : α → sProp 𝕄) :
    iprop(ctx X K ∗ ows c ((x :: l).map (Prod.mk 0) ++ m)
        ∗ (tok c (kSend 0 x) ∗ tok (dst x.2 c) (kRecv 0 x) ∗ xB X c (sendC x.2 c 0) x ∗ room c 0 x))
      ⊢ iprop(((ows c (l.map (Prod.mk 0) ++ m) ∗ crd c (kSend 0 x)) -∗ WP c (κ ⟨⟩) Q) -∗ WP c (sendXStep c x >>= κ) Q) := by
  have hs := wp_sendX X K c x (l.map (Prod.mk 0) ++ m) (κ := κ) (Q := Q)
  iintro ⟨#HC, HO, Ht1, Ht2, Hx, Hr⟩ Hk
  iapply hs $$ [HO Ht1 Ht2 Hx Hr]
  · isplitr; · iexact HC
    isplitl [Ht1]; · iexact Ht1
    isplitl [Ht2]; · iexact Ht2
    isplitl [Hx]; · iexact Hx
    isplitl [Hr]; · unfold room; iexact Hr
    iexact HO
  iintro ⟨Hc, HO⟩
  iapply Hk
  isplitl [HO]; · iexact HO
  iexact Hc

/-- A turn of a reduction loop. -/
theorem turn_add (c : Dev nD) (g : Fin 3) (h : Fin 6) (e : h.val = g.val + 1) (e' : h.val ≤ 2)
    (m : List (Fin 6 × Lane)) (hm : ∀ p ∈ m, g.val < p.1.val) (x : Lane) (l : List Lane) {α : Type} (κ : PUnit → Pg F α) (Q : α → sProp 𝕄) :
    iprop(ctx X K ∗ (slots X c g ∗ ows c ((x :: l).map (Prod.mk h) ++ m))
        ∗ (pos c (kRecv (g.castLE (by decide)) x) ∗ crd c (kRecv (g.castLE (by decide)) x)
          ∗ tok c (kSend h x) ∗ tok (dst x.2 c) (kRecv h x) ∗ room c h x))
      ⊢ iprop((((slots X c g ∗ ows c (l.map (Prod.mk h) ++ m)) ∗ (zed c (kRecv (g.castLE (by decide)) x) ∗ crd c (kSend h x))) -∗ WP c (κ ⟨⟩) Q)
          -∗ WP c (addLane c g h x >>= κ) Q) := by
  unfold addLane
  simp only [Prog.bind_assoc]
  have hl : ∀ p ∈ (x :: l).map (Prod.mk h) ++ m, (g.castLE (by decide) : Fin 6).val < p.1.val := fun p hp => by
    show g.val < _
    rcases List.mem_append.mp hp with hp | hp
    · obtain ⟨y, -, rfl⟩ := List.mem_map.mp hp; show g.val < h.val; omega
    · exact hm p hp
  have h1 := wp_recv X K c (g.castLE (by decide)) x _ hl (κ := fun _ => addStep c g x >>= fun _ => sendStep c h x >>= κ) (Q := Q)
  have h2 := wp_add_slots X c g x (κ := fun _ => sendStep c h x >>= κ) (Q := Q)
  have h3 := wp_send_give X K c h x (l.map (Prod.mk h) ++ m) _ (extL_reduce x.2 c (g.castLE (by decide)) h e e')
    (sendPay_give X c x h (by omega) e') (κ := κ) (Q := Q)
  have e1 := accAt_add X g h e
  rw [sendC_next x.2 c (g.castLE (by decide)) h e, e1] at h3
  iintro ⟨#HC, ⟨HS, HO⟩, Hp, Hc, Ht1, Ht2, Hr⟩ Hk
  iapply h1 $$ [Hp Hc HO]
  · isplitr; · iexact HC
    isplitl [Hp]; · iexact Hp
    isplitl [Hc]; · iexact Hc
    iexact HO
  iintro ⟨HO, Hpay, Hz⟩
  ihave Hpay := (Entails.of_eq (recvPay_add X c g x)) $$ Hpay
  icases Hpay with ⟨Hb, HF⟩
  iapply h2 $$ [HS Hb]
  · isplitl [HS]; · iexact HS
    iexact Hb
  iintro ⟨HS, Hb⟩
  iapply h3 $$ [Ht1 Ht2 Hb Hr HF HO]
  · isplitr; · iexact HC
    isplitl [Ht1]; · iexact Ht1
    isplitl [Ht2]; · iexact Ht2
    isplitl [Hb]; · iexact Hb
    isplitl [Hr]; · unfold room; rw [sendC_next x.2 c (g.castLE (by decide)) h e]; iexact Hr
    isplitl [HF]; · iexact HF
    iexact HO
  iintro ⟨Hc, HO⟩
  iapply Hk
  isplitl [HS HO]
  · isplitl [HS]; · iexact HS
    iexact HO
  isplitl [Hz]; · iexact Hz
  iexact Hc

/-- A finished block in two shares. -/
theorem split_block (c : Dev nD) (k : Fin 4) (x : Lane) (f : Arr F) :
    (bP c k x fullShare f : sProp 𝕄) ⊣⊢ iprop(bP c k x fullShare.left f ∗ bP c k x fullShare.right f) := by
  unfold bP; exact pointsTo_share (PosShare.mem_left_op_right fullShare)

/-- A turn of the turning hop's loop. -/
theorem turn_turn (c : Dev nD) (m : List (Fin 6 × Lane)) (hm : ∀ p ∈ m, 2 < p.1.val) (x : Lane) (l : List Lane)
    {α : Type} (κ : PUnit → Pg F α) (Q : α → sProp 𝕄) :
    iprop(ctx X K ∗ (slots X c 2 ∗ ows c ((x :: l).map (Prod.mk 3) ++ m))
        ∗ (pos c (kRecv 2 x) ∗ crd c (kRecv 2 x) ∗ tok c (kOut 0 x) ∗ outRoom c 0 x
          ∗ tok c (kSend 3 x) ∗ tok (dst x.2 c) (kRecv 3 x) ∗ room c 3 x))
      ⊢ iprop((((slots X c 2 ∗ ows c (l.map (Prod.mk 3) ++ m)) ∗ (zed c (kRecv 2 x) ∗ crd c (kOut 0 x) ∗ crd c (kSend 3 x))) -∗ WP c (κ ⟨⟩) Q)
          -∗ WP c (turnLane c x >>= κ) Q) := by
  unfold turnLane
  simp only [Prog.bind_assoc]
  have hl : ∀ p ∈ (x :: l).map (Prod.mk 3) ++ m, (2 : Fin 6).val < p.1.val := fun p hp => by
    rcases List.mem_append.mp hp with hp | hp
    · obtain ⟨y, -, rfl⟩ := List.mem_map.mp hp; show 2 < 3; omega
    · exact hm p hp
  have h1 := wp_recv X K c 2 x _ hl (κ := fun _ => addStep c 2 x >>= fun _ => flushStep c 2 0 x >>= fun _ => sendStep c 3 x >>= κ) (Q := Q)
  have h2 := wp_add_slots X c 2 x (κ := fun _ => flushStep c 2 0 x >>= fun _ => sendStep c 3 x >>= κ) (Q := Q)
  have h3 := wp_flush X K c 2 0 rfl x (κ := fun _ => sendStep c 3 x >>= κ) (Q := Q)
  have h4 := wp_send_keep X K c 3 x (l.map (Prod.mk 3) ++ m) _ (extL_turn x.2 c) rfl (κ := κ) (Q := Q)
  rw [sendC_next x.2 c 2 3 rfl] at h4
  have hpay : recvPay X c x 2 = iprop(bP c (recvC x.2 c 2) x fullShare (acc X 2) ∗ exts (extL x.2 c 2) (recvC x.2 c 2) x) := rfl
  iintro ⟨#HC, ⟨HS, HO⟩, Hp, Hc, Hto, Hor, Ht1, Ht2, Hr⟩ Hk
  iapply h1 $$ [Hp Hc HO]
  · isplitr; · iexact HC
    isplitl [Hp]; · iexact Hp
    isplitl [Hc]; · iexact Hc
    iexact HO
  iintro ⟨HO, Hpay, Hz⟩
  ihave Hpay := (Entails.of_eq hpay) $$ Hpay
  icases Hpay with ⟨Hb, HF⟩
  iapply h2 $$ [HS Hb]
  · isplitl [HS]; · iexact HS
    iexact Hb
  iintro ⟨HS, Hb⟩
  ihave Hb := (split_block c _ x _).1 $$ Hb
  icases Hb with ⟨Hb, Hb'⟩
  iapply h3 $$ [Hto Hb' Hor]
  · isplitr; · iexact HC
    isplitl [Hto]; · iexact Hto
    isplitl [Hb']; · iexact Hb'
    unfold outRoom; iexact Hor
  iintro Hco
  iapply h4 $$ [Ht1 Ht2 Hb Hr HF HO]
  · isplitr; · iexact HC
    isplitl [Ht1]; · iexact Ht1
    isplitl [Ht2]; · iexact Ht2
    isplitl [Hb]; · iexact Hb
    isplitl [Hr]; · unfold room; rw [sendC_next x.2 c 2 3 rfl]; iexact Hr
    isplitl [HF]; · iexact HF
    iexact HO
  iintro ⟨Hc, HO⟩
  iapply Hk
  isplitl [HS HO]
  · isplitl [HS]; · iexact HS
    iexact HO
  isplitl [Hz]; · iexact Hz
  isplitl [Hco]; · iexact Hco
  iexact Hc

/-- What arrives on a hop of the gathering. -/
theorem recvPay_gather (c : Dev nD) (g : Fin 6) (hg : 3 ≤ g.val) (x : Lane) : recvPay X c x g
    = iprop(bP c (recvC x.2 c g) x fullShare (acc X 3) ∗ exts (extL x.2 c g) (recvC x.2 c g) x) := by
  match g, hg with
  | 3, _ => rfl
  | 4, _ => rfl
  | 5, _ => rfl

/-- A turn of a gathering loop. -/
theorem turn_fwd (c : Dev nD) (g : Fin 6) (k : Fin 4) (h : Fin 6) (ek : g.val = k.val + 2) (e : h.val = g.val + 1) (e' : 3 ≤ g.val)
    (m : List (Fin 6 × Lane)) (hm : ∀ p ∈ m, g.val < p.1.val) (x : Lane) (l : List Lane)
    {α : Type} (κ : PUnit → Pg F α) (Q : α → sProp 𝕄) :
    iprop(ctx X K ∗ ows c ((x :: l).map (Prod.mk h) ++ m)
        ∗ (pos c (kRecv g x) ∗ crd c (kRecv g x) ∗ tok c (kOut k x) ∗ outRoom c k x ∗ tok c (kSend h x) ∗ tok (dst x.2 c) (kRecv h x)))
      ⊢ iprop(((ows c (l.map (Prod.mk h) ++ m) ∗ (zed c (kRecv g x) ∗ crd c (kOut k x) ∗ crd c (kSend h x))) -∗ WP c (κ ⟨⟩) Q)
          -∗ WP c (fwdLane c g k h x >>= κ) Q) := by
  unfold fwdLane
  simp only [Prog.bind_assoc]
  have hl : ∀ p ∈ (x :: l).map (Prod.mk h) ++ m, g.val < p.1.val := fun p hp => by
    rcases List.mem_append.mp hp with hp | hp
    · obtain ⟨y, -, rfl⟩ := List.mem_map.mp hp; show g.val < h.val; omega
    · exact hm p hp
  have h1 := wp_recv X K c g x _ hl (κ := fun _ => flushStep c g k x >>= fun _ => sendStep c h x >>= κ) (Q := Q)
  have h3 := wp_flush X K c g k ek x (κ := fun _ => sendStep c h x >>= κ) (Q := Q)
  have e1 := accAt_gather X h (by omega)
  have h4 := wp_send_keep X K c h x (l.map (Prod.mk h) ++ m) _ rfl
    (sendPay_keep X c x h (by omega)) (κ := κ) (Q := Q)
  rw [sendC_next x.2 c g h e, e1] at h4
  iintro ⟨#HC, HO, Hp, Hc, Hto, Hor, Ht1, Ht2⟩ Hk
  iapply h1 $$ [Hp Hc HO]
  · isplitr; · iexact HC
    isplitl [Hp]; · iexact Hp
    isplitl [Hc]; · iexact Hc
    iexact HO
  iintro ⟨HO, Hpay, Hz⟩
  ihave Hpay := (Entails.of_eq (recvPay_gather X c g e' x)) $$ Hpay
  rw [extL_gather x.2 c g h e e']
  icases Hpay with ⟨Hb, HF⟩
  ihave Hb := (split_block c _ x _).1 $$ Hb
  icases Hb with ⟨Hb, Hb'⟩
  iapply h3 $$ [Hto Hb' Hor]
  · isplitr; · iexact HC
    isplitl [Hto]; · iexact Hto
    isplitl [Hb']; · iexact Hb'
    unfold outRoom; rw [ek]; iexact Hor
  iintro Hco
  ihave HF := (show exts (dst x.2 c :: extL x.2 (dst x.2 c) h) (recvC x.2 c g) x
      ⊢ iprop((∃ f, bP (dst x.2 c) (recvC x.2 c g) x fullShare f) ∗ exts (extL x.2 (dst x.2 c) h) (recvC x.2 c g) x) by
    unfold exts; rw [bigSepL_cons']) $$ HF
  icases HF with ⟨Hr, HF⟩
  iapply h4 $$ [Ht1 Ht2 Hb Hr HF HO]
  · isplitr; · iexact HC
    isplitl [Ht1]; · iexact Ht1
    isplitl [Ht2]; · iexact Ht2
    isplitl [Hb]; · iexact Hb
    isplitl [Hr]; · iexact Hr
    isplitl [HF]; · iexact HF
    iexact HO
  iintro ⟨Hc, HO⟩
  iapply Hk
  isplitl [HO]; · iexact HO
  isplitl [Hz]; · iexact Hz
  isplitl [Hco]; · iexact Hco
  iexact Hc

/-- A turn of the last hop's loop. -/
theorem turn_last (c : Dev nD) (x : Lane) {α : Type} (κ : PUnit → Pg F α) (Q : α → sProp 𝕄) :
    iprop(ctx X K ∗ ows c [] ∗ (pos c (kRecv 5 x) ∗ crd c (kRecv 5 x) ∗ tok c (kOut 3 x) ∗ outRoom c 3 x))
      ⊢ iprop(((ows c [] ∗ (zed c (kRecv 5 x) ∗ crd c (kOut 3 x) ∗ bP c (recvC x.2 c 5) x fullShare.left (acc X 3))) -∗ WP c (κ ⟨⟩) Q)
          -∗ WP c (lastLane c x >>= κ) Q) := by
  unfold lastLane
  simp only [Prog.bind_assoc]
  have h1 := wp_recv X K c 5 x [] (fun p hp => absurd hp List.not_mem_nil) (κ := fun _ => flushStep c 5 3 x >>= κ) (Q := Q)
  have h3 := wp_flush X K c 5 3 rfl x (κ := κ) (Q := Q)
  iintro ⟨#HC, HO, Hp, Hc, Hto, Hor⟩ Hk
  iapply h1 $$ [Hp Hc HO]
  · isplitr; · iexact HC
    isplitl [Hp]; · iexact Hp
    isplitl [Hc]; · iexact Hc
    iexact HO
  iintro ⟨HO, Hpay, Hz⟩
  ihave Hpay := (Entails.of_eq (recvPay_gather X c 5 (by decide) x)) $$ Hpay
  icases Hpay with ⟨Hb, -⟩
  ihave Hb := (split_block c _ x _).1 $$ Hb
  icases Hb with ⟨Hb, Hb'⟩
  iapply h3 $$ [Hto Hb' Hor]
  · isplitr; · iexact HC
    isplitl [Hto]; · iexact Hto
    isplitl [Hb']; · iexact Hb'
    unfold outRoom; iexact Hor
  iintro Hco
  iapply Hk
  isplitl [HO]; · iexact HO
  isplitl [Hz]; · iexact Hz
  isplitl [Hco]; · iexact Hco
  iexact Hb

end Cert.KernelIdeal.Hop
-- ==== Proof.Loops.lean ====
/-
  The loops of the body: what each takes and leaves, over all lanes at once.
-/
module

public import proofs.«01_k».proof.Proof.Lanes

@[expose] public section

set_option maxRecDepth 65536

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Arr F) (K : Dev nD × Option Key → ℕ)

/-! ## Families over the lanes -/

/-- One of each for every lane. -/
abbrev all (Φ : Lane → sProp 𝕄) : sProp 𝕄 := bigSep Finset.univ Φ

theorem split3 (Φ : Fin 3 → sProp 𝕄) : bigSep Finset.univ Φ = iprop(Φ 0 ∗ Φ 1 ∗ Φ 2) :=
  bigSep_univ_eq_bigSepL [0, 1, 2] (by decide) (by decide) Φ
theorem split4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem split6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
/-- A family over the stage's slots, hop by hop. -/
theorem split23 (Φ : Fin 2 × Fin 3 → sProp 𝕄) : bigSep Finset.univ Φ
    = iprop((Φ (0, 0) ∗ Φ (1, 0)) ∗ (Φ (0, 1) ∗ Φ (1, 1)) ∗ (Φ (0, 2) ∗ Φ (1, 2))) := by
  rw [bigSep_univ_equiv (Equiv.prodComm (Fin 3) (Fin 2)) Φ, bigSep_univ_prod, split3]
  simp only [bigSep_univ_two]
  rfl
/-- A family over hops and lanes, hop by hop. -/
theorem hops6 (Φ : Fin 6 × Lane → sProp 𝕄) : bigSep Finset.univ Φ
    = iprop(all (fun x => Φ (0, x)) ∗ all (fun x => Φ (1, x)) ∗ all (fun x => Φ (2, x)) ∗ all (fun x => Φ (3, x))
      ∗ all (fun x => Φ (4, x)) ∗ all (fun x => Φ (5, x))) := by
  rw [bigSep_univ_prod, split6]
/-- A family over chunks and lanes, chunk by chunk. -/
theorem chunks4 (Φ : Fin 4 × Lane → sProp 𝕄) : bigSep Finset.univ Φ
    = iprop(all (fun x => Φ (0, x)) ∗ all (fun x => Φ (1, x)) ∗ all (fun x => Φ (2, x)) ∗ all (fun x => Φ (3, x))) := by
  rw [bigSep_univ_prod, split4]

/-- A family over the transfer semaphores, sorted by use. -/
theorem keys_split (Φ : Key → sProp 𝕄) : bigSep Finset.univ Φ
    = iprop(bigSep Finset.univ (fun p : Fin 6 × Lane => Φ (kSend p.1 p.2)) ∗ bigSep Finset.univ (fun p : Fin 6 × Lane => Φ (kRecv p.1 p.2))
      ∗ bigSep Finset.univ (fun p : Fin 2 × Fin 3 => Φ (kCopy p.1 p.2)) ∗ bigSep Finset.univ (fun p : Fin 4 × Lane => Φ (kOut p.1 p.2))) := by
  rw [BI.bigSep_univ_sum, BI.bigSep_univ_sum, BI.bigSep_univ_sum]
  rfl

/-! ## The loops -/

theorem lanes_univ : (Finset.univ : Finset Lane) = lanes.toFinset := by decide
theorem lanes_nodup : lanes.Nodup := by decide
theorem dues_cons (h : Fin 6) (hs : List (Fin 6)) : hopDues (h :: hs) = lanes.map (Prod.mk h) ++ hopDues hs := rfl
/-- The dues after a hop are later than it. -/
theorem later_dues {hs : List (Fin 6)} {n : ℕ} (hn : ∀ h ∈ hs, n < h.val) : ∀ p ∈ hopDues hs, n < p.1.val := fun p hp => by
  obtain ⟨h, hh, hp⟩ := List.mem_flatMap.mp hp
  obtain ⟨x, -, rfl⟩ := List.mem_map.mp hp
  exact hn h hh

/-- All stage copies started. -/
theorem loop_stage (c : Dev nD) (m : List (Fin 6 × Lane)) {α : Type} (κ : PUnit → Pg F α) (Q : α → sProp 𝕄) :
    iprop(ctx X K ∗ ows c m ∗ (bigSep Finset.univ (fun p : Fin 2 × Fin 3 => tok c (kCopy p.1 p.2))
        ∗ bigSep Finset.univ (fun p : Fin 2 × Fin 3 => xH X c (recvC p.1 c p.2) p.1)
        ∗ bigSep Finset.univ (fun p : Fin 2 × Fin 3 => iprop(∃ f, slotP c p.1 p.2 f))))
      ⊢ iprop(((ows c m ∗ bigSep Finset.univ (fun p : Fin 2 × Fin 3 => crd c (kCopy p.1 p.2))) -∗ WP c (κ ⟨⟩) Q)
          -∗ WP c (each (fun p => stageStep c p.1 p.2) stages >>= κ) Q) := by
  have h := wp_all c stages (by decide) (by decide) (fun p => stageStep c p.1 p.2)
    (fun p => iprop(tok c (kCopy p.1 p.2) ∗ xH X c (recvC p.1 c p.2) p.1 ∗ (∃ f, slotP c p.1 p.2 f)))
    (fun p => crd c (kCopy p.1 p.2)) (ctx X K) (fun _ => ows c m) (fun p l {α} κ Q => by
      have hs := wp_stage X K c p.1 p.2 (κ := κ) (Q := Q)
      iintro ⟨#HC, HO, H⟩ Hk
      iapply hs $$ [H]
      · isplitr; · iexact HC
        iexact H
      iintro Hc
      iapply Hk
      isplitl [HO]; · iexact HO
      iexact Hc) κ Q
  rw [bigSep_sep', bigSep_sep'] at h
  exact h

/-- The first hop's sends. -/
theorem loop_sendX (c : Dev nD) (hs : List (Fin 6)) {α : Type} (κ : PUnit → Pg F α) (Q : α → sProp 𝕄) :
    iprop(ctx X K ∗ ows c (hopDues (0 :: hs)) ∗ (all (fun x => tok c (kSend 0 x)) ∗ all (fun x => tok (dst x.2 c) (kRecv 0 x))
        ∗ all (fun x => xB X c (sendC x.2 c 0) x) ∗ all (fun x => room c 0 x)))
      ⊢ iprop(((ows c (hopDues hs) ∗ all (fun x => crd c (kSend 0 x))) -∗ WP c (κ ⟨⟩) Q)
          -∗ WP c (each (sendXStep c) lanes >>= κ) Q) := by
  have h := wp_all c lanes lanes_univ lanes_nodup (sendXStep c) _ _ (ctx X K) (fun l => ows c (l.map (Prod.mk 0) ++ hopDues hs))
    (fun x l {α} κ Q => turn_sendX X K c (hopDues hs) x l κ Q) κ Q
  rw [bigSep_sep', bigSep_sep', bigSep_sep'] at h
  exact h

/-- A hop of the reduction. -/
theorem loop_add (c : Dev nD) (g : Fin 3) (h : Fin 6) (e : h.val = g.val + 1) (e' : h.val ≤ 2) (hs : List (Fin 6)) (hn : ∀ h ∈ hs, g.val < h.val)
    {α : Type} (κ : PUnit → Pg F α) (Q : α → sProp 𝕄) :
    iprop(ctx X K ∗ (slots X c g ∗ ows c (hopDues (h :: hs)))
        ∗ (all (fun x => pos c (kRecv (g.castLE (by decide)) x)) ∗ all (fun x => crd c (kRecv (g.castLE (by decide)) x))
          ∗ all (fun x => tok c (kSend h x)) ∗ all (fun x => tok (dst x.2 c) (kRecv h x)) ∗ all (fun x => room c h x)))
      ⊢ iprop((((slots X c g ∗ ows c (hopDues hs))
            ∗ (all (fun x => zed c (kRecv (g.castLE (by decide)) x)) ∗ all (fun x => crd c (kSend h x)))) -∗ WP c (κ ⟨⟩) Q)
          -∗ WP c (each (addLane c g h) lanes >>= κ) Q) := by
  have h := wp_all c lanes lanes_univ lanes_nodup (addLane c g h) _ _ (ctx X K)
    (fun l => iprop(slots X c g ∗ ows c (l.map (Prod.mk h) ++ hopDues hs)))
    (fun x l {α} κ Q => turn_add X K c g h e e' (hopDues hs) (later_dues hn) x l κ Q) κ Q
  rw [bigSep_sep', bigSep_sep', bigSep_sep', bigSep_sep', bigSep_sep'] at h
  exact h

/-- The turning hop. -/
theorem loop_turn (c : Dev nD) (hs : List (Fin 6)) (hn : ∀ h ∈ hs, 2 < h.val) {α : Type} (κ : PUnit → Pg F α) (Q : α → sProp 𝕄) :
    iprop(ctx X K ∗ (slots X c 2 ∗ ows c (hopDues (3 :: hs)))
        ∗ (all (fun x => pos c (kRecv 2 x)) ∗ all (fun x => crd c (kRecv 2 x)) ∗ all (fun x => tok c (kOut 0 x)) ∗ all (fun x => outRoom c 0 x)
          ∗ all (fun x => tok c (kSend 3 x)) ∗ all (fun x => tok (dst x.2 c) (kRecv 3 x)) ∗ all (fun x => room c 3 x)))
      ⊢ iprop((((slots X c 2 ∗ ows c (hopDues hs))
            ∗ (all (fun x => zed c (kRecv 2 x)) ∗ all (fun x => crd c (kOut 0 x)) ∗ all (fun x => crd c (kSend 3 x)))) -∗ WP c (κ ⟨⟩) Q)
          -∗ WP c (each (turnLane c) lanes >>= κ) Q) := by
  have h := wp_all c lanes lanes_univ lanes_nodup (turnLane c) _ _ (ctx X K)
    (fun l => iprop(slots X c 2 ∗ ows c (l.map (Prod.mk 3) ++ hopDues hs)))
    (fun x l {α} κ Q => turn_turn X K c (hopDues hs) (later_dues hn) x l κ Q) κ Q
  rw [bigSep_sep', bigSep_sep', bigSep_sep', bigSep_sep', bigSep_sep', bigSep_sep', bigSep_sep', bigSep_sep'] at h
  exact h

/-- A hop of the gathering. -/
theorem loop_fwd (c : Dev nD) (g : Fin 6) (k : Fin 4) (h : Fin 6) (ek : g.val = k.val + 2) (e : h.val = g.val + 1) (e' : 3 ≤ g.val)
    (hs : List (Fin 6)) (hn : ∀ h ∈ hs, g.val < h.val) {α : Type} (κ : PUnit → Pg F α) (Q : α → sProp 𝕄) :
    iprop(ctx X K ∗ ows c (hopDues (h :: hs))
        ∗ (all (fun x => pos c (kRecv g x)) ∗ all (fun x => crd c (kRecv g x)) ∗ all (fun x => tok c (kOut k x)) ∗ all (fun x => outRoom c k x)
          ∗ all (fun x => tok c (kSend h x)) ∗ all (fun x => tok (dst x.2 c) (kRecv h x))))
      ⊢ iprop(((ows c (hopDues hs)
            ∗ (all (fun x => zed c (kRecv g x)) ∗ all (fun x => crd c (kOut k x)) ∗ all (fun x => crd c (kSend h x)))) -∗ WP c (κ ⟨⟩) Q)
          -∗ WP c (each (fwdLane c g k h) lanes >>= κ) Q) := by
  have h := wp_all c lanes lanes_univ lanes_nodup (fwdLane c g k h) _ _ (ctx X K)
    (fun l => ows c (l.map (Prod.mk h) ++ hopDues hs))
    (fun x l {α} κ Q => turn_fwd X K c g k h ek e e' (hopDues hs) (later_dues hn) x l κ Q) κ Q
  rw [bigSep_sep', bigSep_sep', bigSep_sep', bigSep_sep', bigSep_sep', bigSep_sep', bigSep_sep'] at h
  exact h

/-- The last hop. -/
theorem loop_last (c : Dev nD) {α : Type} (κ : PUnit → Pg F α) (Q : α → sProp 𝕄) :
    iprop(ctx X K ∗ ows c []
        ∗ (all (fun x => pos c (kRecv 5 x)) ∗ all (fun x => crd c (kRecv 5 x)) ∗ all (fun x => tok c (kOut 3 x)) ∗ all (fun x => outRoom c 3 x)))
      ⊢ iprop(((ows c []
            ∗ (all (fun x => zed c (kRecv 5 x)) ∗ all (fun x => crd c (kOut 3 x)) ∗ all (fun x => bP c (recvC x.2 c 5) x fullShare.left (acc X 3)))) -∗ WP c (κ ⟨⟩) Q)
          -∗ WP c (each (lastLane c) lanes >>= κ) Q) := by
  have h := wp_all c lanes lanes_univ lanes_nodup (lastLane c) _ _ (ctx X K) (fun _ => ows c [])
    (fun x l {α} κ Q => turn_last X K c x κ Q) κ Q
  rw [bigSep_sep', bigSep_sep', bigSep_sep', bigSep_sep', bigSep_sep'] at h
  exact h

/-- A loop of waits. -/
theorem loop_wait (c : Dev nD) (k : Lane → Key) (f : Lane → Pg F PUnit)
    (hf : ∀ (x : Lane) {α : Type} (κ : PUnit → Pg F α) (Q : α → sProp 𝕄), iprop(ctx X K ∗ pos c (k x) ∗ crd c (k x) ∗ ows c [])
      ⊢ iprop(((ows c [] ∗ keyPay X c (k x) ∗ zed c (k x)) -∗ WP c (κ ⟨⟩) Q) -∗ WP c (f x >>= κ) Q))
    {α : Type} (κ : PUnit → Pg F α) (Q : α → sProp 𝕄) :
    iprop(ctx X K ∗ ows c [] ∗ (all (fun x => pos c (k x)) ∗ all (fun x => crd c (k x))))
      ⊢ iprop(((ows c [] ∗ (all (fun x => keyPay X c (k x)) ∗ all (fun x => zed c (k x)))) -∗ WP c (κ ⟨⟩) Q)
          -∗ WP c (each f lanes >>= κ) Q) := by
  have h := wp_all c lanes lanes_univ lanes_nodup f (fun x => iprop(pos c (k x) ∗ crd c (k x)))
    (fun x => iprop(keyPay X c (k x) ∗ zed c (k x))) (ctx X K) (fun _ => ows c []) (fun x l {α} κ Q => by
      have hs := hf x κ Q
      iintro ⟨#HC, HO, Hp, Hc⟩ Hk
      iapply hs $$ [HO Hp Hc]
      · isplitr; · iexact HC
        isplitl [Hp]; · iexact Hp
        isplitl [Hc]; · iexact Hc
        iexact HO
      iexact Hk) κ Q
  rw [bigSep_sep', bigSep_sep'] at h
  exact h

/-- Both waits for a hop's stage copies. -/
theorem wp_staged2 (c : Dev nD) (g : Fin 3) (m : List (Fin 6 × Lane)) {α : Type} (κ : PUnit → Pg F α) (Q : α → sProp 𝕄) :
    iprop(ctx X K ∗ ows c m ∗ (pos c (kCopy 0 g) ∗ pos c (kCopy 1 g)) ∗ (crd c (kCopy 0 g) ∗ crd c (kCopy 1 g)))
      ⊢ iprop(((ows c m ∗ slots X c g ∗ (xH X c (recvC 0 c g) 0 ∗ xH X c (recvC 1 c g) 1) ∗ (zed c (kCopy 0 g) ∗ zed c (kCopy 1 g))) -∗ WP c (κ ⟨⟩) Q)
          -∗ WP c (staged c g >>= κ) Q) := by
  unfold staged slots
  simp only [Prog.bind_assoc]
  have h0 := wp_staged X K c 0 g m (κ := fun _ => stagedStep c 1 g >>= κ) (Q := Q)
  have h1 := wp_staged X K c 1 g m (κ := κ) (Q := Q)
  unfold copyPay at h0 h1
  iintro ⟨#HC, HO, ⟨Hp0, Hp1⟩, ⟨Hc0, Hc1⟩⟩ Hk
  iapply h0 $$ [HO Hp0 Hc0]
  · isplitr; · iexact HC
    isplitl [Hp0]; · iexact Hp0
    isplitl [Hc0]; · iexact Hc0
    iexact HO
  iintro ⟨HO, ⟨Hs0, Hx0⟩, Hz0⟩
  iapply h1 $$ [HO Hp1 Hc1]
  · isplitr; · iexact HC
    isplitl [Hp1]; · iexact Hp1
    isplitl [Hc1]; · iexact Hc1
    iexact HO
  iintro ⟨HO, ⟨Hs1, Hx1⟩, Hz1⟩
  iapply Hk
  isplitl [HO]; · iexact HO
  isplitl [Hs0 Hs1]
  · isplitl [Hs0]; · iexact Hs0
    iexact Hs1
  isplitl [Hx0 Hx1]
  · isplitl [Hx0]; · iexact Hx0
    iexact Hx1
  isplitl [Hz0]; · iexact Hz0
  iexact Hz1

end Cert.KernelIdeal.Hop
-- ==== Proof.Run.lean ====
/-
  The body's run after the barrier, in three parts: the reduction with the turning hop, the gathering, the last waits.
-/
module

public import proofs.«01_k».proof.Proof.Loops

@[expose] public section

set_option maxRecDepth 65536

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Arr F) (K : Dev nD × Option Key → ℕ)

/-! ## What each loop starts from -/

abbrev inStage (c : Dev nD) : sProp 𝕄 :=
  iprop(bigSep Finset.univ (fun p : Fin 2 × Fin 3 => tok c (kCopy p.1 p.2))
    ∗ bigSep Finset.univ (fun p : Fin 2 × Fin 3 => xH X c (recvC p.1 c p.2) p.1)
    ∗ bigSep Finset.univ (fun p : Fin 2 × Fin 3 => iprop(∃ f, slotP c p.1 p.2 f)))
abbrev inX (c : Dev nD) : sProp 𝕄 :=
  iprop(all (fun x => tok c (kSend 0 x)) ∗ all (fun x => tok (dst x.2 c) (kRecv 0 x))
    ∗ all (fun x => xB X c (sendC x.2 c 0) x) ∗ all (fun x => room c 0 x))
abbrev inAdd (c : Dev nD) (g h : Fin 6) : sProp 𝕄 :=
  iprop(all (fun x => pos c (kRecv g x)) ∗ all (fun x => crd c (kRecv g x))
    ∗ all (fun x => tok c (kSend h x)) ∗ all (fun x => tok (dst x.2 c) (kRecv h x)) ∗ all (fun x => room c h x))
abbrev inTurn (c : Dev nD) : sProp 𝕄 :=
  iprop(all (fun x => pos c (kRecv 2 x)) ∗ all (fun x => crd c (kRecv 2 x)) ∗ all (fun x => tok c (kOut 0 x)) ∗ all (fun x => outRoom c 0 x)
    ∗ all (fun x => tok c (kSend 3 x)) ∗ all (fun x => tok (dst x.2 c) (kRecv 3 x)) ∗ all (fun x => room c 3 x))
abbrev inFwd (c : Dev nD) (g : Fin 6) (k : Fin 4) (h : Fin 6) : sProp 𝕄 :=
  iprop(all (fun x => pos c (kRecv g x)) ∗ all (fun x => crd c (kRecv g x)) ∗ all (fun x => tok c (kOut k x)) ∗ all (fun x => outRoom c k x)
    ∗ all (fun x => tok c (kSend h x)) ∗ all (fun x => tok (dst x.2 c) (kRecv h x)))
abbrev inLast (c : Dev nD) : sProp 𝕄 :=
  iprop(all (fun x => pos c (kRecv 5 x)) ∗ all (fun x => crd c (kRecv 5 x)) ∗ all (fun x => tok c (kOut 3 x)) ∗ all (fun x => outRoom c 3 x))
abbrev posCopy (c : Dev nD) (g : Fin 3) : sProp 𝕄 := iprop(pos c (kCopy 0 g) ∗ pos c (kCopy 1 g))
abbrev zedCopy (c : Dev nD) (g : Fin 3) : sProp 𝕄 := iprop(zed c (kCopy 0 g) ∗ zed c (kCopy 1 g))
abbrev crdCopy (c : Dev nD) (g : Fin 3) : sProp 𝕄 := iprop(crd c (kCopy 0 g) ∗ crd c (kCopy 1 g))
abbrev halves (c : Dev nD) (g : Fin 3) : sProp 𝕄 := iprop(xH X c (recvC 0 c g) 0 ∗ xH X c (recvC 1 c g) 1)

/-! ## The three parts -/

/-- A hop of the reduction with the waits for its stage copies. -/
theorem wp_hop (c : Dev nD) (g : Fin 3) (h : Fin 6) (e : h.val = g.val + 1) (e' : h.val ≤ 2) (hs : List (Fin 6)) (hn : ∀ h ∈ hs, g.val < h.val)
    {α : Type} (κ : PUnit → Pg F α) (Q : α → sProp 𝕄) :
    iprop(ctx X K ∗ ows c (hopDues (h :: hs)) ∗ posCopy c g ∗ crdCopy c g ∗ inAdd c (g.castLE (by decide)) h)
      ⊢ iprop(((ows c (hopDues hs) ∗ (slots X c g ∗ halves X c g ∗ zedCopy c g)
            ∗ (all (fun x => zed c (kRecv (g.castLE (by decide)) x)) ∗ all (fun x => crd c (kSend h x)))) -∗ WP c (κ ⟨⟩) Q)
          -∗ WP c (staged c g >>= fun _ => each (addLane c g h) lanes >>= κ) Q) := by
  have h1 := wp_staged2 X K c g (hopDues (h :: hs)) (fun _ => each (addLane c g h) lanes >>= κ) Q
  have h2 := loop_add X K c g h e e' hs hn κ Q
  iintro ⟨#HC, HO, Hp, Hc, HI⟩ Hk
  iapply h1 $$ [HO Hp Hc]
  · isplitr; · iexact HC
    isplitl [HO]; · iexact HO
    isplitl [Hp]; · iexact Hp
    iexact Hc
  iintro ⟨HO, HS, HX, HZ⟩
  iapply h2 $$ [HO HS HI]
  · isplitr; · iexact HC
    isplitl [HO HS]
    · isplitl [HS]; · iexact HS
      iexact HO
    iexact HI
  iintro ⟨⟨HS, HO⟩, HR⟩
  iapply Hk
  isplitl [HO]; · iexact HO
  isplitr [HR]
  · isplitl [HS]; · iexact HS
    isplitl [HX]; · iexact HX
    iexact HZ
  iexact HR

/-- The turning hop with the waits for its stage copies. -/
theorem wp_turn (c : Dev nD) (hs : List (Fin 6)) (hn : ∀ h ∈ hs, 2 < h.val) {α : Type} (κ : PUnit → Pg F α) (Q : α → sProp 𝕄) :
    iprop(ctx X K ∗ ows c (hopDues (3 :: hs)) ∗ posCopy c 2 ∗ crdCopy c 2 ∗ inTurn c)
      ⊢ iprop(((ows c (hopDues hs) ∗ (slots X c 2 ∗ halves X c 2 ∗ zedCopy c 2)
            ∗ (all (fun x => zed c (kRecv 2 x)) ∗ all (fun x => crd c (kOut 0 x)) ∗ all (fun x => crd c (kSend 3 x)))) -∗ WP c (κ ⟨⟩) Q)
          -∗ WP c (staged c 2 >>= fun _ => each (turnLane c) lanes >>= κ) Q) := by
  have h1 := wp_staged2 X K c 2 (hopDues (3 :: hs)) (fun _ => each (turnLane c) lanes >>= κ) Q
  have h2 := loop_turn X K c hs hn κ Q
  iintro ⟨#HC, HO, Hp, Hc, HI⟩ Hk
  iapply h1 $$ [HO Hp Hc]
  · isplitr; · iexact HC
    isplitl [HO]; · iexact HO
    isplitl [Hp]; · iexact Hp
    iexact Hc
  iintro ⟨HO, HS, HX, HZ⟩
  iapply h2 $$ [HO HS HI]
  · isplitr; · iexact HC
    isplitl [HO HS]
    · isplitl [HS]; · iexact HS
      iexact HO
    iexact HI
  iintro ⟨⟨HS, HO⟩, HR⟩
  iapply Hk
  isplitl [HO]; · iexact HO
  isplitr [HR]
  · isplitl [HS]; · iexact HS
    isplitl [HX]; · iexact HX
    iexact HZ
  iexact HR

/-- The reduction: stage copies, first sends, two adding hops and the turn. -/
theorem wp_reduce (c : Dev nD) {α : Type} (κ : PUnit → Pg F α) (Q : α → sProp 𝕄) :
    iprop(ctx X K ∗ ows c allDues ∗ inStage X c ∗ (posCopy c 0 ∗ posCopy c 1 ∗ posCopy c 2) ∗ inX X c ∗ inAdd c 0 1 ∗ inAdd c 1 2 ∗ inTurn c)
      ⊢ iprop(((ows c (hopDues [4, 5])
            ∗ ((slots X c 0 ∗ halves X c 0 ∗ zedCopy c 0) ∗ (slots X c 1 ∗ halves X c 1 ∗ zedCopy c 1) ∗ (slots X c 2 ∗ halves X c 2 ∗ zedCopy c 2))
            ∗ all (fun x => crd c (kSend 0 x))
            ∗ (all (fun x => zed c (kRecv 0 x)) ∗ all (fun x => crd c (kSend 1 x)))
            ∗ (all (fun x => zed c (kRecv 1 x)) ∗ all (fun x => crd c (kSend 2 x)))
            ∗ (all (fun x => zed c (kRecv 2 x)) ∗ all (fun x => crd c (kOut 0 x)) ∗ all (fun x => crd c (kSend 3 x)))) -∗ WP c (κ ⟨⟩) Q)
          -∗ WP c (each (fun p => stageStep c p.1 p.2) stages >>= fun _ => each (sendXStep c) lanes >>= fun _ =>
            staged c 0 >>= fun _ => each (addLane c 0 1) lanes >>= fun _ => staged c 1 >>= fun _ => each (addLane c 1 2) lanes >>= fun _ =>
            staged c 2 >>= fun _ => each (turnLane c) lanes >>= κ) Q) := by
  have h1 := loop_stage X K c allDues (fun _ => each (sendXStep c) lanes >>= fun _ =>
            staged c 0 >>= fun _ => each (addLane c 0 1) lanes >>= fun _ => staged c 1 >>= fun _ => each (addLane c 1 2) lanes >>= fun _ =>
            staged c 2 >>= fun _ => each (turnLane c) lanes >>= κ) Q
  rw [split23 (fun p : Fin 2 × Fin 3 => crd c (kCopy p.1 p.2))] at h1
  have h2 := loop_sendX X K c [1, 2, 3, 4, 5] (fun _ =>
            staged c 0 >>= fun _ => each (addLane c 0 1) lanes >>= fun _ => staged c 1 >>= fun _ => each (addLane c 1 2) lanes >>= fun _ =>
            staged c 2 >>= fun _ => each (turnLane c) lanes >>= κ) Q
  have h3 := wp_hop X K c 0 1 rfl (by decide) [2, 3, 4, 5] (by decide) (fun _ => staged c 1 >>= fun _ => each (addLane c 1 2) lanes >>= fun _ =>
            staged c 2 >>= fun _ => each (turnLane c) lanes >>= κ) Q
  have h4 := wp_hop X K c 1 2 rfl (by decide) [3, 4, 5] (by decide) (fun _ => staged c 2 >>= fun _ => each (turnLane c) lanes >>= κ) Q
  have h5 := wp_turn X K c [4, 5] (by decide) κ Q
  iintro ⟨#HC, HO, HS, ⟨Hp0, Hp1, Hp2⟩, HX, HA0, HA1, HT⟩ Hk
  iapply h1 $$ [HO HS]
  · isplitr; · iexact HC
    isplitl [HO]; · iexact HO
    iexact HS
  iintro ⟨HO, Hc0, Hc1, Hc2⟩
  iapply h2 $$ [HO HX]
  · isplitr; · iexact HC
    isplitl [HO]; · iexact HO
    iexact HX
  iintro ⟨HO, HrX⟩
  iapply h3 $$ [HO Hp0 Hc0 HA0]
  · isplitr; · iexact HC
    isplitl [HO]; · iexact HO
    isplitl [Hp0]; · iexact Hp0
    isplitl [Hc0]; · iexact Hc0
    iexact HA0
  iintro ⟨HO, Hm0, Hr0⟩
  iapply h4 $$ [HO Hp1 Hc1 HA1]
  · isplitr; · iexact HC
    isplitl [HO]; · iexact HO
    isplitl [Hp1]; · iexact Hp1
    isplitl [Hc1]; · iexact Hc1
    iexact HA1
  iintro ⟨HO, Hm1, Hr1⟩
  iapply h5 $$ [HO Hp2 Hc2 HT]
  · isplitr; · iexact HC
    isplitl [HO]; · iexact HO
    isplitl [Hp2]; · iexact Hp2
    isplitl [Hc2]; · iexact Hc2
    iexact HT
  iintro ⟨HO, Hm2, Hr2⟩
  iapply Hk
  isplitl [HO]; · iexact HO
  isplitl [Hm0 Hm1 Hm2]
  · isplitl [Hm0]; · iexact Hm0
    isplitl [Hm1]; · iexact Hm1
    iexact Hm2
  isplitl [HrX]; · iexact HrX
  isplitl [Hr0]; · iexact Hr0
  isplitl [Hr1]; · iexact Hr1
  iexact Hr2

/-- The gathering. -/
theorem wp_gather (c : Dev nD) {α : Type} (κ : PUnit → Pg F α) (Q : α → sProp 𝕄) :
    iprop(ctx X K ∗ ows c (hopDues [4, 5]) ∗ inFwd c 3 1 4 ∗ inFwd c 4 2 5 ∗ inLast c)
      ⊢ iprop(((ows c []
            ∗ (all (fun x => zed c (kRecv 3 x)) ∗ all (fun x => crd c (kOut 1 x)) ∗ all (fun x => crd c (kSend 4 x)))
            ∗ (all (fun x => zed c (kRecv 4 x)) ∗ all (fun x => crd c (kOut 2 x)) ∗ all (fun x => crd c (kSend 5 x)))
            ∗ (all (fun x => zed c (kRecv 5 x)) ∗ all (fun x => crd c (kOut 3 x)) ∗ all (fun x => bP c (recvC x.2 c 5) x fullShare.left (acc X 3))))
              -∗ WP c (κ ⟨⟩) Q)
          -∗ WP c (each (fwdLane c 3 1 4) lanes >>= fun _ => each (fwdLane c 4 2 5) lanes >>= fun _ => each (lastLane c) lanes >>= κ) Q) := by
  have h1 := loop_fwd X K c 3 1 4 rfl rfl (by decide) [5] (by decide) (fun _ => each (fwdLane c 4 2 5) lanes >>= fun _ => each (lastLane c) lanes >>= κ) Q
  have h2 := loop_fwd X K c 4 2 5 rfl rfl (by decide) [] (by decide) (fun _ => each (lastLane c) lanes >>= κ) Q
  have h3 := loop_last X K c κ Q
  iintro ⟨#HC, HO, HF1, HF2, HL⟩ Hk
  iapply h1 $$ [HO HF1]
  · isplitr; · iexact HC
    isplitl [HO]; · iexact HO
    iexact HF1
  iintro ⟨HO, Hr1⟩
  iapply h2 $$ [HO HF2]
  · isplitr; · iexact HC
    isplitl [HO]; · iexact HO
    iexact HF2
  iintro ⟨HO, Hr2⟩
  iapply h3 $$ [HO HL]
  · isplitr; · iexact HC
    isplitl [HO]; · iexact HO
    iexact HL
  iintro ⟨HO, Hr3⟩
  iapply Hk
  isplitl [HO]; · iexact HO
  isplitl [Hr1]; · iexact Hr1
  isplitl [Hr2]; · iexact Hr2
  iexact Hr3

/-- What a loop of waits starts from. -/
abbrev inW (c : Dev nD) (k : Lane → Key) : sProp 𝕄 := iprop(all (fun x => pos c (k x)) ∗ all (fun x => crd c (k x)))
/-- What it ends with. -/
abbrev outW (c : Dev nD) (k : Lane → Key) : sProp 𝕄 := iprop(all (fun x => keyPay X c (k x)) ∗ all (fun x => zed c (k x)))

/-- Four loops of waits for the result's blocks. -/
theorem wp_drainO (c : Dev nD) {α : Type} (κ : PUnit → Pg F α) (Q : α → sProp 𝕄) :
    iprop(ctx X K ∗ ows c [] ∗ inW c (kOut 0) ∗ inW c (kOut 1) ∗ inW c (kOut 2) ∗ inW c (kOut 3))
      ⊢ iprop(((ows c [] ∗ outW X c (kOut 0) ∗ outW X c (kOut 1) ∗ outW X c (kOut 2) ∗ outW X c (kOut 3)) -∗ WP c (κ ⟨⟩) Q)
          -∗ WP c (each (flushedStep c 2 0) lanes >>= fun _ => each (flushedStep c 3 1) lanes >>= fun _ =>
            each (flushedStep c 4 2) lanes >>= fun _ => each (flushedStep c 5 3) lanes >>= κ) Q) := by
  have h0 := loop_wait X K c (kOut 0) (flushedStep c 2 0) (fun x {α} κ Q => wp_flushed X K c 2 0 x [])
    (fun _ => each (flushedStep c 3 1) lanes >>= fun _ => each (flushedStep c 4 2) lanes >>= fun _ => each (flushedStep c 5 3) lanes >>= κ) Q
  have h1 := loop_wait X K c (kOut 1) (flushedStep c 3 1) (fun x {α} κ Q => wp_flushed X K c 3 1 x [])
    (fun _ => each (flushedStep c 4 2) lanes >>= fun _ => each (flushedStep c 5 3) lanes >>= κ) Q
  have h2 := loop_wait X K c (kOut 2) (flushedStep c 4 2) (fun x {α} κ Q => wp_flushed X K c 4 2 x [])
    (fun _ => each (flushedStep c 5 3) lanes >>= κ) Q
  have h3 := loop_wait X K c (kOut 3) (flushedStep c 5 3) (fun x {α} κ Q => wp_flushed X K c 5 3 x []) κ Q
  iintro ⟨#HC, HO, H0, H1, H2, H3⟩ Hk
  iapply h0 $$ [HO H0]
  · isplitr; · iexact HC
    isplitl [HO]; · iexact HO
    iexact H0
  iintro ⟨HO, H0⟩
  iapply h1 $$ [HO H1]
  · isplitr; · iexact HC
    isplitl [HO]; · iexact HO
    iexact H1
  iintro ⟨HO, H1⟩
  iapply h2 $$ [HO H2]
  · isplitr; · iexact HC
    isplitl [HO]; · iexact HO
    iexact H2
  iintro ⟨HO, H2⟩
  iapply h3 $$ [HO H3]
  · isplitr; · iexact HC
    isplitl [HO]; · iexact HO
    iexact H3
  iintro ⟨HO, H3⟩
  iapply Hk
  isplitl [HO]; · iexact HO
  isplitl [H0]; · iexact H0
  isplitl [H1]; · iexact H1
  isplitl [H2]; · iexact H2
  iexact H3

/-- Three loops of waits for later hops' sources, from one hop on. -/
theorem wp_drainS (c : Dev nD) (a b d : Fin 6) {α : Type} (κ : PUnit → Pg F α) (Q : α → sProp 𝕄) :
    iprop(ctx X K ∗ ows c [] ∗ inW c (kSend a) ∗ inW c (kSend b) ∗ inW c (kSend d))
      ⊢ iprop(((ows c [] ∗ outW X c (kSend a) ∗ outW X c (kSend b) ∗ outW X c (kSend d)) -∗ WP c (κ ⟨⟩) Q)
          -∗ WP c (each (sentStep c a) lanes >>= fun _ => each (sentStep c b) lanes >>= fun _ => each (sentStep c d) lanes >>= κ) Q) := by
  have h0 := loop_wait X K c (kSend a) (sentStep c a) (fun x {α} κ Q => wp_sent X K c a x [])
    (fun _ => each (sentStep c b) lanes >>= fun _ => each (sentStep c d) lanes >>= κ) Q
  have h1 := loop_wait X K c (kSend b) (sentStep c b) (fun x {α} κ Q => wp_sent X K c b x []) (fun _ => each (sentStep c d) lanes >>= κ) Q
  have h2 := loop_wait X K c (kSend d) (sentStep c d) (fun x {α} κ Q => wp_sent X K c d x []) κ Q
  iintro ⟨#HC, HO, H0, H1, H2⟩ Hk
  iapply h0 $$ [HO H0]
  · isplitr; · iexact HC
    isplitl [HO]; · iexact HO
    iexact H0
  iintro ⟨HO, H0⟩
  iapply h1 $$ [HO H1]
  · isplitr; · iexact HC
    isplitl [HO]; · iexact HO
    iexact H1
  iintro ⟨HO, H1⟩
  iapply h2 $$ [HO H2]
  · isplitr; · iexact HC
    isplitl [HO]; · iexact HO
    iexact H2
  iintro ⟨HO, H2⟩
  iapply Hk
  isplitl [HO]; · iexact HO
  isplitl [H0]; · iexact H0
  isplitl [H1]; · iexact H1
  iexact H2

/-- The first hop's waits and all later ones. -/
theorem wp_drain (c : Dev nD) {α : Type} (κ : PUnit → Pg F α) (Q : α → sProp 𝕄) :
    iprop(ctx X K ∗ ows c [] ∗ inW c (kSend 0) ∗ (inW c (kSend 1) ∗ inW c (kSend 2) ∗ inW c (kSend 3)) ∗ inW c (kSend 4) ∗ inW c (kSend 5))
      ⊢ iprop(((ows c [] ∗ outW X c (kSend 0) ∗ (outW X c (kSend 1) ∗ outW X c (kSend 2) ∗ outW X c (kSend 3)) ∗ outW X c (kSend 4) ∗ outW X c (kSend 5))
            -∗ WP c (κ ⟨⟩) Q)
          -∗ WP c (each (sentXStep c) lanes >>= fun _ => each (sentStep c 1) lanes >>= fun _ => each (sentStep c 2) lanes >>= fun _ =>
            each (sentStep c 3) lanes >>= fun _ => each (sentStep c 4) lanes >>= fun _ => each (sentStep c 5) lanes >>= κ) Q) := by
  have h0 := loop_wait X K c (kSend 0) (sentXStep c) (fun x {α} κ Q => wp_sentX X K c x [])
    (fun _ => each (sentStep c 1) lanes >>= fun _ => each (sentStep c 2) lanes >>= fun _ =>
            each (sentStep c 3) lanes >>= fun _ => each (sentStep c 4) lanes >>= fun _ => each (sentStep c 5) lanes >>= κ) Q
  have h1 := wp_drainS X K c 1 2 3 (fun _ => each (sentStep c 4) lanes >>= fun _ => each (sentStep c 5) lanes >>= κ) Q
  have h4 := loop_wait X K c (kSend 4) (sentStep c 4) (fun x {α} κ Q => wp_sent X K c 4 x []) (fun _ => each (sentStep c 5) lanes >>= κ) Q
  have h5 := loop_wait X K c (kSend 5) (sentStep c 5) (fun x {α} κ Q => wp_sent X K c 5 x []) κ Q
  iintro ⟨#HC, HO, H0, H1, H4, H5⟩ Hk
  iapply h0 $$ [HO H0]
  · isplitr; · iexact HC
    isplitl [HO]; · iexact HO
    iexact H0
  iintro ⟨HO, H0⟩
  iapply h1 $$ [HO H1]
  · isplitr; · iexact HC
    isplitl [HO]; · iexact HO
    iexact H1
  iintro ⟨HO, H1⟩
  iapply h4 $$ [HO H4]
  · isplitr; · iexact HC
    isplitl [HO]; · iexact HO
    iexact H4
  iintro ⟨HO, H4⟩
  iapply h5 $$ [HO H5]
  · isplitr; · iexact HC
    isplitl [HO]; · iexact HO
    iexact H5
  iintro ⟨HO, H5⟩
  iapply Hk
  isplitl [HO]; · iexact HO
  isplitl [H0]; · iexact H0
  isplitl [H1]; · iexact H1
  isplitl [H4]; · iexact H4
  iexact H5

end Cert.KernelIdeal.Hop
-- ==== Proof.Whole.lean ====
/-
  The whole body of one device: from what it holds at the start to what it holds at the end.
-/
module

public import proofs.«01_k».proof.Proof.Run

@[expose] public section

set_option maxRecDepth 65536

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Arr F) (K : Dev nD × Option Key → ℕ)

/-! ## Regrouping -/

/-- The order in which a device's chunks are sent, as a permutation of the chunks. -/
def sendE (d : Fin 2) (c : Dev nD) : Fin 4 ≃ Fin 4 :=
  Equiv.ofBijective (fun j => sendC d c j.val) (by revert d c; decide +kernel)
/-- The order in which its chunks are finished. -/
def doneE (d : Fin 2) (c : Dev nD) : Fin 4 ≃ Fin 4 :=
  Equiv.ofBijective (fun j => recvC d c (j.val + 2)) (by revert d c; decide +kernel)

/-- A family over chunks and lanes, direction by direction. -/
theorem by_dir (Φ : Fin 4 → Lane → sProp 𝕄) : all (fun x => bigSep Finset.univ fun k => Φ k x)
    = iprop(bigSep Finset.univ (fun p : Fin 4 × Fin 4 => Φ p.1 (p.2, 0)) ∗ bigSep Finset.univ (fun p : Fin 4 × Fin 4 => Φ p.1 (p.2, 1))) := by
  show bigSep Finset.univ (fun x : Lane => bigSep Finset.univ fun k => Φ k x) = _
  rw [bigSep_univ_prod, bigSep_univ_prod, bigSep_univ_prod, BI.bigSep_univ_comm (fun (a : Fin 4) (b : Fin 4) => Φ a (b, 0)),
    BI.bigSep_univ_comm (fun (a : Fin 4) (b : Fin 4) => Φ a (b, 1)), ← bigSep_sep']
  exact bigSep_congr fun b _ => bigSep_univ_two _

/-- A family over chunks and lanes, in an order of the chunks. -/
theorem by_order (e : Fin 2 → Fin 4 ≃ Fin 4) (Φ : Fin 4 → Lane → sProp 𝕄) :
    all (fun x => bigSep Finset.univ fun k => Φ k x) = bigSep Finset.univ (fun p : Fin 4 × Lane => Φ (e p.2.2 p.1) p.2) := by
  rw [bigSep_univ_prod]
  refine Eq.trans ?_ (BI.bigSep_univ_comm (fun (j : Fin 4) (x : Lane) => Φ (e x.2 j) x)).symm
  exact bigSep_congr fun x _ => bigSep_univ_equiv (e x.2) _

/-- What the meeting brings is room for the first four hops. -/
theorem rooms (c : Dev nD) : (iprop(bufH (dst 0 c) 0 ∗ bufH (dst 1 c) 1) : sProp 𝕄)
    = iprop(all (fun x => room c 0 x) ∗ all (fun x => room c 1 x) ∗ all (fun x => room c 2 x) ∗ all (fun x => room c 3 x)) := by
  have h := (by_dir (fun k x => iprop(∃ f : Arr F, bP (dst x.2 c) k x fullShare f))).symm.trans
    (by_order (fun d => sendE d c) (fun k x => iprop(∃ f : Arr F, bP (dst x.2 c) k x fullShare f)))
  rw [chunks4] at h
  exact h

/-- The blocks copied to the result come with a share of the buffer's. -/
theorem outs_split (c : Dev nD) (k : Fin 4) : all (fun x => keyPay X c (kOut k x))
    = iprop(all (fun x => oB c (recvC x.2 c (k.val + 2)) x (acc X 3)) ∗ all (fun x => bP c (recvC x.2 c (k.val + 2)) x fullShare.right (acc X 3))) := by
  rw [← bigSep_sep']
  rfl

/-- The sources of the last hops are the other share. -/
theorem sents (c : Dev nD) (g h : Fin 6) (e : h.val = g.val + 1) (e' : 3 ≤ h.val) : all (fun x => keyPay X c (kSend h x))
    = all (fun x => bP c (recvC x.2 c g) x fullShare.left (acc X 3)) :=
  bigSep_congr fun x _ => (sendPay_keep X c x h e').trans (by rw [accAt_gather X h e', sendC_next x.2 c g h e])

/-- Both shares of a finished chunk make it whole. -/
theorem join_chunk (c : Dev nD) (k : Fin 4) :
    iprop(all (fun x => bP c (recvC x.2 c (k.val + 2)) x fullShare.left (acc X 3)) ∗ all (fun x => bP c (recvC x.2 c (k.val + 2)) x fullShare.right (acc X 3)))
      ⊢ all (fun x => bP c (recvC x.2 c (k.val + 2)) x fullShare (acc X 3)) := by
  rw [← bigSep_sep']
  exact bigSep_mono fun x _ => (split_block c _ x _).2

/-! ## Start and end -/

/-- The right to pay a duty, held by the device that pays it. -/
def tk (c : Dev nD) : Key → sProp 𝕄
  | .inl (h, x) => tok c (kSend h x)
  | .inr (.inl (h, x)) => tok (dst x.2 c) (kRecv h x)
  | .inr (.inr (.inl (d, g))) => tok c (kCopy d g)
  | .inr (.inr (.inr (k, x))) => tok c (kOut k x)

/-- Those rights, sorted by use. -/
theorem tk_split (c : Dev nD) : bigSep Finset.univ (fun k : Key => (tk c k : sProp 𝕄))
    = iprop((all (fun x => tok c (kSend 0 x)) ∗ all (fun x => tok c (kSend 1 x)) ∗ all (fun x => tok c (kSend 2 x))
          ∗ all (fun x => tok c (kSend 3 x)) ∗ all (fun x => tok c (kSend 4 x)) ∗ all (fun x => tok c (kSend 5 x)))
      ∗ (all (fun x => tok (dst x.2 c) (kRecv 0 x)) ∗ all (fun x => tok (dst x.2 c) (kRecv 1 x)) ∗ all (fun x => tok (dst x.2 c) (kRecv 2 x))
          ∗ all (fun x => tok (dst x.2 c) (kRecv 3 x)) ∗ all (fun x => tok (dst x.2 c) (kRecv 4 x)) ∗ all (fun x => tok (dst x.2 c) (kRecv 5 x)))
      ∗ bigSep Finset.univ (fun p : Fin 2 × Fin 3 => tok c (kCopy p.1 p.2))
      ∗ all (fun x => tok c (kOut 0 x)) ∗ all (fun x => tok c (kOut 1 x)) ∗ all (fun x => tok c (kOut 2 x)) ∗ all (fun x => tok c (kOut 3 x))) := by
  rw [keys_split, hops6, hops6, chunks4]
  rfl

/-- The memory a device starts with, in the pieces the body works on. -/
def memIn (c : Dev nD) : sProp 𝕄 :=
  iprop((bufH c 0 ∗ bufH c 1) ∗ (all (fun x => xB X c (sendC x.2 c 0) x) ∗ bigSep Finset.univ (fun p : Fin 2 × Fin 3 => xH X c (recvC p.1 c p.2) p.1))
    ∗ bigSep Finset.univ (fun p : Fin 2 × Fin 3 => iprop(∃ f, slotP c p.1 p.2 f))
    ∗ bigSep Finset.univ (fun p : Fin 4 × Lane => outRoom c p.1 p.2))
/-- The ghost state it starts with. -/
def ghostIn (c : Dev nD) : sProp 𝕄 :=
  iprop((tokB (dst 0 c) 1 ∗ tokB (dst 1 c) 0 ∗ posB c) ∗ bigSep Finset.univ (fun k : Key => pos c k) ∗ bigSep Finset.univ (fun k : Key => tk c k))
/-- The credits it starts with. -/
def credIn (c : Dev nD) : sProp 𝕄 :=
  iprop(crdB c ∗ bigSep Finset.univ (fun p : Fin 6 × Lane => crd c (kRecv p.1 p.2)))
/-- The memory it ends with. -/
def memOut (c : Dev nD) : sProp 𝕄 :=
  iprop(bigSep Finset.univ (fun p : Fin 4 × Lane => bP c (recvC p.2.2 c (p.1.val + 2)) p.2 fullShare (acc X 3))
    ∗ (all (fun x => xB X c (sendC x.2 c 0) x) ∗ bigSep Finset.univ (fun p : Fin 2 × Fin 3 => xH X c (recvC p.1 c p.2) p.1))
    ∗ bigSep Finset.univ (fun p : Fin 2 × Fin 3 => slotF X c p.1 p.2)
    ∗ bigSep Finset.univ (fun p : Fin 4 × Lane => oB c (recvC p.2.2 c (p.1.val + 2)) p.2 (acc X 3)))

/-- The body of a device. -/
theorem wp_nice (c : Dev nD) {W : Waits sig Unit} {α : Type} (κ : PUnit → Pg F α) (Q : α → sProp 𝕄) :
    iprop(ctx X K ∗ owes (c : Thread nD τ) (O₀ c) W ∗ ghostIn c ∗ credIn c ∗ memIn X c)
      ⊢ iprop(((ows c [] ∗ zedB c ∗ bigSep Finset.univ (fun k : Key => zed c k) ∗ memOut X c) -∗ WP c (κ ⟨⟩) Q)
          -∗ WP c (nice c >>= κ) Q) := by
  unfold nice
  simp only [Prog.bind_assoc]
  have eR := rooms (F := F) c
  have ep := (keys_split (fun k : Key => (pos c k : sProp 𝕄)))
  have et := tk_split (F := F) c
  have ez := (keys_split (fun k : Key => (zed c k : sProp 𝕄)))
  have eo := chunks4 (fun p : Fin 4 × Lane => (outRoom c p.1 p.2 : sProp 𝕄))
  have ec := hops6 (fun p : Fin 6 × Lane => (crd c (kRecv p.1 p.2) : sProp 𝕄))
  rw [hops6, hops6, split23, chunks4] at ep ez
  have j0 := join_chunk X c 0
  have j1 := join_chunk X c 1
  have j2 := join_chunk X c 2
  have j3 := join_chunk X c 3
  iintro ⟨#HC, HO, HG, HK, HM⟩ Hk
  unfold ghostIn credIn memIn
  icases HG with ⟨⟨Htb0, Htb1, Hpb⟩, Hp, Ht⟩
  icases HK with ⟨Hcb, Hc⟩
  icases HM with ⟨⟨Hb0, Hb1⟩, ⟨HxB, HxH⟩, Hs, Ho⟩
  ihave Hp := (Entails.of_eq ep) $$ Hp
  ihave Ht := (Entails.of_eq et) $$ Ht
  ihave Hc := (Entails.of_eq ec) $$ Hc
  ihave Ho := (Entails.of_eq eo) $$ Ho
  icases Hp with ⟨⟨HpS0, HpS1, HpS2, HpS3, HpS4, HpS5⟩, ⟨HpR0, HpR1, HpR2, HpR3, HpR4, HpR5⟩, ⟨HpC0, HpC1, HpC2⟩, ⟨HpO0, HpO1, HpO2, HpO3⟩⟩
  icases Ht with ⟨⟨HtS0, HtS1, HtS2, HtS3, HtS4, HtS5⟩, ⟨HtR0, HtR1, HtR2, HtR3, HtR4, HtR5⟩, HtC, ⟨HtO0, HtO1, HtO2, HtO3⟩⟩
  icases Hc with ⟨HcR0, HcR1, HcR2, HcR3, HcR4, HcR5⟩
  icases Ho with ⟨Ho0, Ho1, Ho2, Ho3⟩
  iapply (wp_meet X K c (W := W)) $$ [Htb0 Htb1 Hpb Hcb Hb0 Hb1 HO]
  · isplitr; · iexact HC
    isplitl [Htb0]; · iexact Htb0
    isplitl [Htb1]; · iexact Htb1
    isplitl [Hpb]; · iexact Hpb
    isplitl [Hcb]; · iexact Hcb
    isplitl [Hb0]; · iexact Hb0
    isplitl [Hb1]; · iexact Hb1
    iexact HO
  iintro ⟨HO, Hn0, Hn1, Hzb⟩
  ihave Hr := (Entails.of_eq eR) $$ [Hn0 Hn1]
  · isplitl [Hn0]; · iexact Hn0
    iexact Hn1
  icases Hr with ⟨Hr0, Hr1, Hr2, Hr3⟩
  iapply (wp_reduce X K c) $$ [HO HtC HxH Hs HpC0 HpC1 HpC2 HtS0 HtR0 HxB Hr0 HpR0 HcR0 HtS1 HtR1 Hr1 HpR1 HcR1 HtS2 HtR2 Hr2 HpR2 HcR2 HtO0 Ho0 HtS3 HtR3 Hr3]
  · isplitr; · iexact HC
    isplitl [HO]; · iexact HO
    isplitl [HtC HxH Hs]
    · isplitl [HtC]; · iexact HtC
      isplitl [HxH]; · iexact HxH
      iexact Hs
    isplitl [HpC0 HpC1 HpC2]
    · isplitl [HpC0]; · iexact HpC0
      isplitl [HpC1]; · iexact HpC1
      iexact HpC2
    isplitl [HtS0 HtR0 HxB Hr0]
    · isplitl [HtS0]; · iexact HtS0
      isplitl [HtR0]; · iexact HtR0
      isplitl [HxB]; · iexact HxB
      iexact Hr0
    isplitl [HpR0 HcR0 HtS1 HtR1 Hr1]
    · isplitl [HpR0]; · iexact HpR0
      isplitl [HcR0]; · iexact HcR0
      isplitl [HtS1]; · iexact HtS1
      isplitl [HtR1]; · iexact HtR1
      iexact Hr1
    isplitl [HpR1 HcR1 HtS2 HtR2 Hr2]
    · isplitl [HpR1]; · iexact HpR1
      isplitl [HcR1]; · iexact HcR1
      isplitl [HtS2]; · iexact HtS2
      isplitl [HtR2]; · iexact HtR2
      iexact Hr2
    isplitl [HpR2]; · iexact HpR2
    isplitl [HcR2]; · iexact HcR2
    isplitl [HtO0]; · iexact HtO0
    isplitl [Ho0]; · iexact Ho0
    isplitl [HtS3]; · iexact HtS3
    isplitl [HtR3]; · iexact HtR3
    iexact Hr3
  iintro ⟨HO, ⟨⟨Hs0, Hx0, HzC0⟩, ⟨Hs1, Hx1, HzC1⟩, ⟨Hs2, Hx2, HzC2⟩⟩, HcS0, ⟨HzR0, HcS1⟩, ⟨HzR1, HcS2⟩, ⟨HzR2, HcO0, HcS3⟩⟩
  iapply (wp_gather X K c) $$ [HO HpR3 HcR3 HtO1 Ho1 HtS4 HtR4 HpR4 HcR4 HtO2 Ho2 HtS5 HtR5 HpR5 HcR5 HtO3 Ho3]
  · isplitr; · iexact HC
    isplitl [HO]; · iexact HO
    isplitl [HpR3 HcR3 HtO1 Ho1 HtS4 HtR4]
    · isplitl [HpR3]; · iexact HpR3
      isplitl [HcR3]; · iexact HcR3
      isplitl [HtO1]; · iexact HtO1
      isplitl [Ho1]; · iexact Ho1
      isplitl [HtS4]; · iexact HtS4
      iexact HtR4
    isplitl [HpR4 HcR4 HtO2 Ho2 HtS5 HtR5]
    · isplitl [HpR4]; · iexact HpR4
      isplitl [HcR4]; · iexact HcR4
      isplitl [HtO2]; · iexact HtO2
      isplitl [Ho2]; · iexact Ho2
      isplitl [HtS5]; · iexact HtS5
      iexact HtR5
    isplitl [HpR5]; · iexact HpR5
    isplitl [HcR5]; · iexact HcR5
    isplitl [HtO3]; · iexact HtO3
    iexact Ho3
  iintro ⟨HO, ⟨HzR3, HcO1, HcS4⟩, ⟨HzR4, HcO2, HcS5⟩, ⟨HzR5, HcO3, Hl3⟩⟩
  iapply (wp_drainO X K c) $$ [HO HpO0 HcO0 HpO1 HcO1 HpO2 HcO2 HpO3 HcO3]
  · isplitr; · iexact HC
    isplitl [HO]; · iexact HO
    isplitl [HpO0 HcO0]
    · isplitl [HpO0]; · iexact HpO0
      iexact HcO0
    isplitl [HpO1 HcO1]
    · isplitl [HpO1]; · iexact HpO1
      iexact HcO1
    isplitl [HpO2 HcO2]
    · isplitl [HpO2]; · iexact HpO2
      iexact HcO2
    isplitl [HpO3]; · iexact HpO3
    iexact HcO3
  iintro ⟨HO, ⟨HyO0, HzO0⟩, ⟨HyO1, HzO1⟩, ⟨HyO2, HzO2⟩, ⟨HyO3, HzO3⟩⟩
  iapply (wp_drain X K c) $$ [HO HpS0 HcS0 HpS1 HcS1 HpS2 HcS2 HpS3 HcS3 HpS4 HcS4 HpS5 HcS5]
  · isplitr; · iexact HC
    isplitl [HO]; · iexact HO
    isplitl [HpS0 HcS0]
    · isplitl [HpS0]; · iexact HpS0
      iexact HcS0
    isplitl [HpS1 HcS1 HpS2 HcS2 HpS3 HcS3]
    · isplitl [HpS1 HcS1]
      · isplitl [HpS1]; · iexact HpS1
        iexact HcS1
      isplitl [HpS2 HcS2]
      · isplitl [HpS2]; · iexact HpS2
        iexact HcS2
      isplitl [HpS3]; · iexact HpS3
      iexact HcS3
    isplitl [HpS4 HcS4]
    · isplitl [HpS4]; · iexact HpS4
      iexact HcS4
    isplitl [HpS5]; · iexact HpS5
    iexact HcS5
  iintro ⟨HO, ⟨HyS0, HzS0⟩, ⟨⟨-, HzS1⟩, ⟨-, HzS2⟩, ⟨HyS3, HzS3⟩⟩, ⟨HyS4, HzS4⟩, ⟨HyS5, HzS5⟩⟩
  ihave HyO0 := (Entails.of_eq (outs_split X c 0)) $$ HyO0
  ihave HyO1 := (Entails.of_eq (outs_split X c 1)) $$ HyO1
  ihave HyO2 := (Entails.of_eq (outs_split X c 2)) $$ HyO2
  ihave HyO3 := (Entails.of_eq (outs_split X c 3)) $$ HyO3
  icases HyO0 with ⟨Ho0, Hq0⟩
  icases HyO1 with ⟨Ho1, Hq1⟩
  icases HyO2 with ⟨Ho2, Hq2⟩
  icases HyO3 with ⟨Ho3, Hq3⟩
  ihave Hl0 := (Entails.of_eq (sents X c 2 3 rfl (by decide))) $$ HyS3
  ihave Hl1 := (Entails.of_eq (sents X c 3 4 rfl (by decide))) $$ HyS4
  ihave Hl2 := (Entails.of_eq (sents X c 4 5 rfl (by decide))) $$ HyS5
  ihave Hb0 := j0 $$ [Hl0 Hq0]
  · isplitl [Hl0]; · iexact Hl0
    iexact Hq0
  ihave Hb1 := j1 $$ [Hl1 Hq1]
  · isplitl [Hl1]; · iexact Hl1
    iexact Hq1
  ihave Hb2 := j2 $$ [Hl2 Hq2]
  · isplitl [Hl2]; · iexact Hl2
    iexact Hq2
  ihave Hb3 := j3 $$ [Hl3 Hq3]
  · isplitl [Hl3]; · iexact Hl3
    iexact Hq3
  iapply Hk
  isplitl [HO]; · iexact HO
  isplitl [Hzb]; · iexact Hzb
  isplitl [HzS0 HzS1 HzS2 HzS3 HzS4 HzS5 HzR0 HzR1 HzR2 HzR3 HzR4 HzR5 HzC0 HzC1 HzC2 HzO0 HzO1 HzO2 HzO3]
  · iapply (Entails.of_eq ez.symm)
    isplitl [HzS0 HzS1 HzS2 HzS3 HzS4 HzS5]
    · isplitl [HzS0]; · iexact HzS0
      isplitl [HzS1]; · iexact HzS1
      isplitl [HzS2]; · iexact HzS2
      isplitl [HzS3]; · iexact HzS3
      isplitl [HzS4]; · iexact HzS4
      iexact HzS5
    isplitl [HzR0 HzR1 HzR2 HzR3 HzR4 HzR5]
    · isplitl [HzR0]; · iexact HzR0
      isplitl [HzR1]; · iexact HzR1
      isplitl [HzR2]; · iexact HzR2
      isplitl [HzR3]; · iexact HzR3
      isplitl [HzR4]; · iexact HzR4
      iexact HzR5
    isplitl [HzC0 HzC1 HzC2]
    · isplitl [HzC0]; · iexact HzC0
      isplitl [HzC1]; · iexact HzC1
      iexact HzC2
    isplitl [HzO0]; · iexact HzO0
    isplitl [HzO1]; · iexact HzO1
    isplitl [HzO2]; · iexact HzO2
    iexact HzO3
  unfold memOut
  isplitl [Hb0 Hb1 Hb2 Hb3]
  · rw [chunks4]
    isplitl [Hb0]; · iexact Hb0
    isplitl [Hb1]; · iexact Hb1
    isplitl [Hb2]; · iexact Hb2
    iexact Hb3
  isplitl [HyS0 Hx0 Hx1 Hx2]
  · isplitl [HyS0]; · iexact HyS0
    rw [split23]
    isplitl [Hx0]; · iexact Hx0
    isplitl [Hx1]; · iexact Hx1
    iexact Hx2
  isplitl [Hs0 Hs1 Hs2]
  · rw [split23]
    unfold slots
    isplitl [Hs0]; · iexact Hs0
    isplitl [Hs1]; · iexact Hs1
    iexact Hs2
  rw [chunks4]
  isplitl [Ho0]; · iexact Ho0
  isplitl [Ho1]; · iexact Ho1
  isplitl [Ho2]; · iexact Ho2
  iexact Ho3

end Cert.KernelIdeal.Hop
-- ==== Proof.Memory.lean ====
/-
  The buffers of a device, whole and piece by piece.
-/
module

public import proofs.«01_k».proof.Proof.Whole

@[expose] public section

set_option maxRecDepth 65536

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Arr F)

/-- A device's input, whole. -/
def xW (c : Dev nD) (f : Arr F) : sProp 𝕄 := ((c : Thread nD τ).loc main_arg0) ↦{fullShare} f
/-- Its result, whole. -/
def oW (c : Dev nD) (f : Arr F) : sProp 𝕄 := ((c : Thread nD τ).loc main_v1) ↦{fullShare} f
/-- Its buffer, whole. -/
def bW (c : Dev nD) (f : Arr F) : sProp 𝕄 := ((c : Thread nD τ).loc cc0_scratch0) ↦{fullShare} f
/-- Its stage, whole. -/
def sW (c : Dev nD) (f : Stg F) : sProp 𝕄 := ((c : Thread nD τ).loc cc0_scratch1) ↦{fullShare} f

/-! ## The three arrays in blocks -/

theorem Blk_disjoint (p p' : Lane × Fin 4) (h : p ≠ p') : Disjoint (BlkS p.2 p.1) (BlkS p'.2 p'.1) :=
  Finset.disjoint_left.mpr fun i hi hj => h (Prod.ext ((mem_BlkS_iff.mp hi).2.trans (mem_BlkS_iff.mp hj).2.symm)
    ((mem_BlkS_iff.mp hi).1.trans (mem_BlkS_iff.mp hj).1.symm))
theorem Blk_cover : (Finset.univ.biUnion fun p : Lane × Fin 4 => BlkS p.2 p.1) = Finset.univ :=
  Finset.eq_univ_of_forall fun i => Finset.mem_biUnion.mpr ⟨((rowOf i, dirOf i), chunkOf i), Finset.mem_univ _, mem_BlkS_iff.mpr ⟨rfl, rfl⟩⟩

theorem bW_blocks (c : Dev nD) (f : Arr F) :
    (bW c f : sProp 𝕄) = all (fun x => bigSep Finset.univ fun k : Fin 4 => bP c k x fullShare f) := by
  refine (Ring.pointsTo_blocks (ℓ := (c : Thread nD τ).loc cc0_scratch0) (fun p : Lane × Fin 4 => BlkS p.2 p.1) Blk_disjoint Blk_cover f).trans ?_
  rw [bigSep_univ_prod]
  refine bigSep_congr fun x _ => bigSep_congr fun k _ => ?_
  unfold bP; rw [set_cutB]
theorem oW_blocks (c : Dev nD) (f : Arr F) :
    (oW c f : sProp 𝕄) = all (fun x => bigSep Finset.univ fun k : Fin 4 => oB c k x f) := by
  refine (Ring.pointsTo_blocks (ℓ := (c : Thread nD τ).loc main_v1) (fun p : Lane × Fin 4 => BlkS p.2 p.1) Blk_disjoint Blk_cover f).trans ?_
  rw [bigSep_univ_prod]
  refine bigSep_congr fun x _ => bigSep_congr fun k _ => ?_
  unfold oB; rw [set_cutO]
theorem xW_halves (c : Dev nD) :
    (xW c (X c) : sProp 𝕄) = bigSep Finset.univ fun d : Fin 2 => bigSep Finset.univ fun k : Fin 4 => xH X c k d := by
  refine (Ring.pointsTo_blocks (ℓ := (c : Thread nD τ).loc main_arg0) HalfS HalfS_disjoint HalfS_cover (X c)).trans ?_
  rw [bigSep_univ_prod]
  refine (BI.bigSep_univ_comm _).trans ?_
  refine bigSep_congr fun d _ => bigSep_congr fun k _ => ?_
  unfold xH; rw [set_cut4]
theorem xH_blocks (c : Dev nD) (k : Fin 4) (d : Fin 2) :
    (xH X c k d : sProp 𝕄) = bigSep Finset.univ fun b : Fin 4 => xB X c k (b, d) := by
  unfold xH; rw [set_cut4]
  refine (Ring.pointsTo_sub_blocks (ℓ := (c : Thread nD τ).loc main_arg0) (fun b : Fin 4 => BlkS k (b, d)) (BlkS_disjoint k d) _
    (BlkS_cover (k, d)) (X c)).trans ?_
  refine bigSep_congr fun b _ => ?_
  unfold xB; rw [set_cutX]

/-- A device's input in the pieces the body works on. -/
theorem xW_split (c : Dev nD) : (xW c (X c) : sProp 𝕄)
    = iprop(all (fun x => xB X c (sendC x.2 c 0) x) ∗ bigSep Finset.univ (fun p : Fin 2 × Fin 3 => xH X c (recvC p.1 c p.2) p.1)) := by
  rw [xW_halves, bigSep_univ_prod (fun p : Fin 2 × Fin 3 => (xH X c (recvC p.1 c p.2) p.1 : sProp 𝕄))]
  have e : all (fun x => (xB X c (sendC x.2 c 0) x : sProp 𝕄)) = bigSep Finset.univ fun d : Fin 2 => xH X c (sendC d c 0) d := by
    show bigSep Finset.univ (fun x : Lane => (xB X c (sendC x.2 c 0) x : sProp 𝕄)) = _
    rw [bigSep_univ_prod, BI.bigSep_univ_comm (fun (b : Fin 4) (d : Fin 2) => (xB X c (sendC d c 0) (b, d) : sProp 𝕄))]
    exact bigSep_congr fun d _ => (xH_blocks X c _ d).symm
  rw [e, ← bigSep_sep']
  refine bigSep_congr fun d _ => (bigSep_univ_equiv (sendE d c) _).trans ?_
  rw [split4, split3]
  show iprop(xH X c (sendC d c 0) d ∗ xH X c (sendC d c ((0 : Fin 5).val + 1)) d ∗ xH X c (sendC d c ((1 : Fin 5).val + 1)) d
    ∗ xH X c (sendC d c ((2 : Fin 5).val + 1)) d) = _
  rw [sendC_succ, sendC_succ, sendC_succ]
  rfl

/-! ## The stage in slots -/

/-- The indices of a slot. -/
def SlotS (p : Fin 2 × Fin 3) : Finset S2x3x2048x512.Idx :=
  (Rect.unit (s := S2x3x2048x512) ![p.1.val, p.2.val, 0, 0] S1x1x2048x512.size (stg_inb p.1 p.2)).set
theorem set_slot (d : Fin 2) (g : Fin 3) : (slot d g).view.set = SlotS (d, g) :=
  (View.set_reshape (v := (sM.slice (Rect.unit (s := S2x3x2048x512) ![d.val, g.val, 0, 0] S1x1x2048x512.size (stg_inb d g)) (fun _ => rfl)).view) _).trans
    (View.set_slice_whole _ _)
theorem mem_SlotS {p : Fin 2 × Fin 3} {i : S2x3x2048x512.Idx} : i ∈ SlotS p ↔ p.1 = i 0 ∧ p.2 = i 1 := by
  obtain ⟨d, g⟩ := p
  unfold SlotS
  rw [Rect.mem_set_unit]
  constructor
  · intro h
    have h0 : d.val ≤ (i 0).val ∧ (i 0).val < d.val + 1 := h 0
    have h1 : g.val ≤ (i 1).val ∧ (i 1).val < g.val + 1 := h 1
    exact ⟨Fin.ext (show d.val = (i 0).val by omega), Fin.ext (show g.val = (i 1).val by omega)⟩
  · rintro ⟨rfl, rfl⟩ a
    have h2 : (i 2).val < 2048 := (i 2).isLt
    have h3 : (i 3).val < 512 := (i 3).isLt
    fin_cases a
    · exact ⟨Nat.le_refl _, Nat.lt_succ_self _⟩
    · exact ⟨Nat.le_refl _, Nat.lt_succ_self _⟩
    · exact ⟨Nat.zero_le _, by show (i 2).val < 0 + 2048; omega⟩
    · exact ⟨Nat.zero_le _, by show (i 3).val < 0 + 512; omega⟩
theorem SlotS_disjoint (p p' : Fin 2 × Fin 3) (h : p ≠ p') : Disjoint (SlotS p) (SlotS p') :=
  Finset.disjoint_left.mpr fun _ hi hj => h (Prod.ext ((mem_SlotS.mp hi).1.trans (mem_SlotS.mp hj).1.symm) ((mem_SlotS.mp hi).2.trans (mem_SlotS.mp hj).2.symm))
theorem SlotS_cover : Finset.univ.biUnion SlotS = Finset.univ :=
  Finset.eq_univ_of_forall fun i => Finset.mem_biUnion.mpr ⟨(i 0, i 1), Finset.mem_univ _, mem_SlotS.mpr ⟨rfl, rfl⟩⟩

theorem sW_split (c : Dev nD) (f : Stg F) : (sW c f : sProp 𝕄) = bigSep Finset.univ fun p : Fin 2 × Fin 3 => slotP c p.1 p.2 f := by
  refine (Ring.pointsTo_blocks (ℓ := (c : Thread nD τ).loc cc0_scratch1) SlotS SlotS_disjoint SlotS_cover f).trans ?_
  refine bigSep_congr fun p _ => ?_
  unfold slotP; rw [set_slot]
theorem sW_join (c : Dev nD) (f : Stg F) : bigSep Finset.univ (fun p : Fin 2 × Fin 3 => slotF X c p.1 p.2) ⊢ (iprop(∃ f, sW c f) : sProp 𝕄) := by
  refine BIBase.Entails.trans (bigSep_mono fun p _ => ?_) (Ring.pointsTo_blocks_join_exists (ℓ := (c : Thread nD τ).loc cc0_scratch1) SlotS SlotS_disjoint SlotS_cover f)
  have h : (slotF X c p.1 p.2 : sProp 𝕄) ⊢ iprop(∃ g : Stg F, (slot p.1 p.2).view.loc (c : Thread nD τ) ↦[SlotS p]{fullShare} g) := by
    unfold slotF slotP
    rw [set_slot]
    iintro ⟨%fd, H⟩
    iexists _
    iexact H
  exact h

/-! ## The whole memory -/

/-- The memory a device is given, piece by piece. -/
theorem mem_in (c : Dev nD) (fo fb : Arr F) (fs : Stg F) : iprop(xW c (X c) ∗ oW c fo ∗ bW c fb ∗ sW c fs) ⊢ (memIn X c : sProp 𝕄) := by
  unfold memIn
  have h0 : ∀ d : Fin 2, bigSep Finset.univ (fun p : Fin 4 × Fin 4 => (bP c p.1 (p.2, d) fullShare fb : sProp 𝕄)) ⊢ bufH c d := fun d => by
    unfold bufH
    exact bigSep_mono fun p _ => exists_intro (Φ := fun f => bP c p.1 (p.2, d) fullShare f) fb
  have hs : bigSep Finset.univ (fun p : Fin 2 × Fin 3 => (slotP c p.1 p.2 fs : sProp 𝕄))
      ⊢ bigSep Finset.univ (fun p : Fin 2 × Fin 3 => iprop(∃ f, slotP c p.1 p.2 f)) :=
    bigSep_mono fun p _ => exists_intro (Φ := fun f => slotP c p.1 p.2 f) fs
  have ho : bigSep Finset.univ (fun p : Fin 4 × Lane => (oB c (doneE p.2.2 c p.1) p.2 fo : sProp 𝕄))
      ⊢ bigSep Finset.univ (fun p : Fin 4 × Lane => outRoom c p.1 p.2) :=
    bigSep_mono fun p _ => exists_intro (Φ := fun f => oB c (recvC p.2.2 c (p.1.val + 2)) p.2 f) fo
  rw [xW_split, oW_blocks, bW_blocks, sW_split, by_order (fun d => doneE d c) (fun k x => (oB c k x fo : sProp 𝕄)),
    by_dir (fun k x => (bP c k x fullShare fb : sProp 𝕄))]
  iintro ⟨Hx, Ho, ⟨Hb0, Hb1⟩, Hs⟩
  isplitl [Hb0 Hb1]
  · isplitl [Hb0]
    · iapply (h0 0); iexact Hb0
    · iapply (h0 1); iexact Hb1
  isplitl [Hx]
  · iexact Hx
  isplitl [Hs]
  · iapply hs; iexact Hs
  · iapply ho; iexact Ho

/-- The memory it gives back. -/
theorem mem_out (c : Dev nD) (f : Stg F) : (memOut X c : sProp 𝕄) ⊢ iprop(xW c (X c) ∗ oW c (acc X 3) ∗ bW c (acc X 3) ∗ ∃ f, sW c f) := by
  unfold memOut
  rw [xW_split, oW_blocks, bW_blocks, by_order (fun d => doneE d c) (fun k x => (oB c k x (acc X 3) : sProp 𝕄)),
    by_order (fun d => doneE d c) (fun k x => (bP c k x fullShare (acc X 3) : sProp 𝕄))]
  have hs := sW_join X c f
  iintro ⟨Hb, Hx, Hs, Ho⟩
  isplitl [Hx]
  · iexact Hx
  isplitl [Ho]
  · iexact Ho
  isplitl [Hb]
  · iexact Hb
  iapply hs; iexact Hs

end Cert.KernelIdeal.Hop

end
-- ==== Proof.Ghost.lean ====
/-
  The ghost state of all devices, from the launch to what each device starts with.
-/
module

public import proofs.«01_k».proof.Proof.Memory

@[expose] public section

set_option maxRecDepth 65536

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Arr F)

/-! ## Semaphores -/

/-- The transfer semaphores of a device. -/
abbrev osem : Key → SemLoc sig := fun k => semOf (some k)

theorem dsem_inj : Function.Injective dsem := keyEquiv.injective
theorem semOf_inj : Function.Injective semOf := by
  rintro (_ | k) (_ | k') h
  · rfl
  · exact absurd h (fun h => nomatch h)
  · exact absurd h (fun h => nomatch h)
  · exact congrArg some (dsem_inj (SemLoc.dma.inj h))
theorem ownSemFacts : Pipeline.OwnSemFacts cfg0.spec osem :=
  ⟨by decide +kernel, fun _ _ h => Option.some.inj (semOf_inj h), fun _ w => w.elim0⟩

/-- A family over the barrier and the transfer semaphores. -/
theorem split_option (Φ : Option Key → sProp 𝕄) :
    bigSep Finset.univ Φ = iprop(bigSep Finset.univ (fun k : Key => Φ (some k)) ∗ Φ none) := by
  rw [bigSep_univ_equiv (Equiv.optionEquivSumPUnit.{0} Key).symm Φ, BI.bigSep_univ_sum]
  exact congrArg (fun Q : sProp 𝕄 => iprop(bigSep Finset.univ (fun k : Key => Φ (some k)) ∗ Q))
    (bigSep_univ_eq_bigSepL [PUnit.unit] rfl (List.nodup_singleton _) (fun _ : PUnit.{1} => Φ none))

theorem ownSems_eq (c : Dev nD) : (Pipeline.ownSems0 osem c : sProp 𝕄) = bigSep Finset.univ (fun k : Key => zed c k) := rfl
theorem unscoped_eq (c : Dev nD) : (unscopedSems0 c : sProp 𝕄) = zedB c := by
  unfold unscopedSems0; rw [bigSep_eq_bigSepL_of_eq [semOf none] (by decide) (by decide)]; rfl

/-! ## Cells and duties -/

theorem cell_inj : Function.Injective (fun p : Dev nD × Option Key => cell p.1 p.2) := by
  rintro ⟨c, o⟩ ⟨c', o'⟩ h
  have h1 : c = c' := congrArg (fun g : GSem nD τ sig => g.1.1) h
  exact Prod.ext h1 (semOf_inj (congrArg Prod.snd h))
/-- Every semaphore the kernels share. -/
def cells : Finset (GSem nD τ sig) := Finset.univ.map ⟨_, cell_inj⟩

/-- A device's duties: one for each transfer semaphore, two for its barrier. -/
def rightOf (p : Dev nD × (Key ⊕ Fin 2)) : GSem nD τ sig × ℕ × Fin 2 := match p.2 with
  | .inl k => (cell p.1 (some k), 0, 0)
  | .inr e => (cell p.1 none, 0, e)
theorem rightOf_inj : Function.Injective rightOf := by
  rintro ⟨c, j⟩ ⟨c', j'⟩ h
  have h1 : c = c' := by
    have h := congrArg (fun x : GSem nD τ sig × ℕ × Fin 2 => x.1.1.1) h
    rcases j with _ | _ <;> rcases j' with _ | _ <;> exact h
  have h2 := congrArg (fun x : GSem nD τ sig × ℕ × Fin 2 => x.1.2) h
  have h3 := congrArg (fun x : GSem nD τ sig × ℕ × Fin 2 => x.2.2) h
  refine Prod.ext h1 ?_
  rcases j with k | e <;> rcases j' with k' | e'
  · exact congrArg Sum.inl (Option.some.inj (semOf_inj h2))
  · exact absurd (semOf_inj (a₁ := some k) (a₂ := none) h2) (fun h => nomatch h)
  · exact absurd (semOf_inj (a₁ := none) (a₂ := some k') h2) (fun h => nomatch h)
  · exact congrArg Sum.inr h3
/-- Every duty. -/
def duties : Finset (GSem nD τ sig × ℕ × Fin 2) := Finset.univ.map ⟨rightOf, rightOf_inj⟩

/-- The launch's ghost state. -/
def u₀ : UU := (initOf (Pipeline.cells cfgs cellOf_inj) (Pipeline.launchToks cfgs cellOf_inj), initOf cells duties)

/-- The rights to a device's own duties. -/
def toks (c : Dev nD) : sProp 𝕄 := iprop(bigSep Finset.univ (fun k : Key => tok c k) ∗ tokB c 0 ∗ tokB c 1)
/-- What the launch deals a device. -/
def deal (c : Dev nD) : sProp 𝕄 :=
  iprop(bigSep Finset.univ (fun o : Option Key => roundState ER (sched X) (cell c o) 0)
    ∗ (bigSep Finset.univ (fun o : Option Key => atPos ER (cell c o) 0 ∅ 0) ∗ bigSep Finset.univ (fun o : Option Key => reached ER (cell c o) 0))
    ∗ toks c)

theorem fund_all : BI.own (ER (initOf cells duties)) ⊢ (|==> bigSep Finset.univ (deal X) : sProp 𝕄) := by
  have hC (Φ : GSem nD τ sig → sProp 𝕄) :
      bigSep cells Φ = bigSep Finset.univ fun c : Dev nD => bigSep Finset.univ fun o : Option Key => Φ (cell c o) := by
    unfold cells; rw [bigSep_map, bigSep_univ_prod]; rfl
  have hT : bigSep duties (fun x => (dutyTok ER x.1 x.2.1 x.2.2 : sProp 𝕄)) = bigSep Finset.univ fun c : Dev nD => toks c := by
    unfold duties; rw [bigSep_map, bigSep_univ_prod]
    refine bigSep_congr fun c _ => ?_
    rw [BI.bigSep_univ_sum, bigSep_univ_two]
    rfl
  have hF : BI.own (ER (initOf cells duties)) ⊢ (iprop(|==> (bigSep cells (fun g => roundState ER (sched X) g 0) ∗ bigSep cells (fun g => reached ER g 0)
      ∗ bigSep cells (fun g => atPos ER g 0 ∅ 0) ∗ bigSep duties (fun x => dutyTok ER x.1 x.2.1 x.2.2))) : sProp 𝕄) := Rounds.fund ER (sched X) cells duties
  rw [hC, hC, hC, hT] at hF
  iintro HX
  imod hF $$ HX with ⟨H1, H2, H3, H4⟩
  imodintro
  unfold deal
  simp only [bigSep_sep']
  isplitl [H1]; · iexact H1
  isplitl [H2 H3]
  · isplitl [H3] <;> iassumption
  iexact H4

/-- A device's semaphores become shared. -/
theorem share_cells (c : Dev nD) :
    iprop(Pipeline.ownSems0 osem c ∗ unscopedSems0 c ∗ deal X c)
      ⊢ (|={Set.univ}=> iprop(bigSep Finset.univ (fun o : Option Key => iprop(∃ κ : ℕ, cellInv ER (sched X) κ (cell c o)))
          ∗ (bigSep Finset.univ (fun o : Option Key => atPos ER (cell c o) 0 ∅ 0) ∗ bigSep Finset.univ (fun o : Option Key => reached ER (cell c o) 0))
          ∗ toks c) : sProp 𝕄) := by
  have hv : (iprop(bigSep Finset.univ (fun k : Key => zed c k) ∗ zedB c) : sProp 𝕄)
      = bigSep Finset.univ (fun o : Option Key => semVal (cell c o) 0) := (split_option (fun o => semVal (cell c o) 0)).symm
  have hi : iprop(bigSep Finset.univ (fun o : Option Key => semVal (cell c o) 0)
        ∗ bigSep Finset.univ (fun o : Option Key => roundState ER (sched X) (cell c o) 0))
      ⊢ (|={Set.univ}=> bigSep Finset.univ (fun o : Option Key => iprop(∃ κ : ℕ, cellInv ER (sched X) κ (cell c o))) : sProp 𝕄) := by
    rw [← bigSep_sep']
    exact (bigSep_mono fun o _ => (Rounds.body_intro ER (sched X) (cell c o)).trans inv_alloc).trans (bigSep_fupd _ _)
  rw [ownSems_eq, unscoped_eq, ← hv] at *
  unfold deal
  iintro ⟨Ho, Hu, Hst, Hp, Ht⟩
  imod hi $$ [Ho Hu Hst] with Hi
  · isplitl [Ho Hu]
    · isplitl [Ho] <;> iassumption
    · iexact Hst
  imodintro
  isplitl [Hi]; · iexact Hi
  isplitl [Hp]; · iexact Hp
  iexact Ht

/-- The neighbour in a direction, as a permutation of the devices. -/
def dstE (d : Fin 2) : Dev nD ≃ Dev nD := ⟨dst d, src d, src_dst d, dst_src d⟩

/-- Every right goes to the device that pays the duty. -/
theorem toks_around : bigSep Finset.univ (fun c : Dev nD => (toks c : sProp 𝕄))
    = bigSep Finset.univ (fun c : Dev nD => iprop(bigSep Finset.univ (fun k : Key => tk c k) ∗ tokB (dst 1 c) 0 ∗ tokB (dst 0 c) 1)) := by
  unfold toks
  rw [bigSep_sep', bigSep_sep', bigSep_sep', bigSep_sep', bigSep_univ_equiv (dstE 1) (fun c : Dev nD => (tokB c 0 : sProp 𝕄)),
    bigSep_univ_equiv (dstE 0) (fun c : Dev nD => (tokB c 1 : sProp 𝕄)),
    BI.bigSep_univ_comm (fun (c : Dev nD) (k : Key) => (tok c k : sProp 𝕄)), BI.bigSep_univ_comm (fun (c : Dev nD) (k : Key) => (tk c k : sProp 𝕄))]
  have h : ∀ k : Key, bigSep Finset.univ (fun c : Dev nD => (tok c k : sProp 𝕄)) = bigSep Finset.univ (fun c : Dev nD => tk c k) := by
    rintro (p | ⟨h, x⟩ | p | p)
    · rfl
    · exact bigSep_univ_equiv (dstE x.2) _
    · rfl
    · rfl
  rw [bigSep_congr fun k _ => h k]
  rfl

/-- What the global step gives a device. -/
def given (c : Dev nD) : sProp 𝕄 := iprop((∃ K, recs X K) ∗ ghostIn c)

theorem deal_out :
    bigSep Finset.univ (fun c : Dev nD => iprop(bigSep Finset.univ (fun o : Option Key => iprop(∃ κ : ℕ, cellInv ER (sched X) κ (cell c o)))
        ∗ (bigSep Finset.univ (fun o : Option Key => atPos ER (cell c o) 0 ∅ 0) ∗ bigSep Finset.univ (fun o : Option Key => reached ER (cell c o) 0))
        ∗ toks c)) ⊢ (bigSep Finset.univ (given X) : sProp 𝕄) := by
  rw [bigSep_sep', bigSep_sep', bigSep_sep', toks_around,
    ← bigSep_univ_prod (fun p : Dev nD × Option Key => iprop(∃ κ : ℕ, cellInv ER (sched X) κ (cell p.1 p.2))),
    ← bigSep_univ_prod (fun p : Dev nD × Option Key => (reached ER (cell p.1 p.2) 0 : sProp 𝕄))]
  have hK := BI.bigSep_exists_pi Finset.univ (fun (p : Dev nD × Option Key) (κ : ℕ) => (cellInv ER (sched X) κ (cell p.1 p.2) : sProp 𝕄))
  have hR : ∀ K : Dev nD × Option Key → ℕ, iprop(bigSep Finset.univ (fun p : Dev nD × Option Key => cellInv ER (sched X) (K p) (cell p.1 p.2))
      ∗ bigSep Finset.univ (fun p : Dev nD × Option Key => reached ER (cell p.1 p.2) 0)) ⊢ (recs X K : sProp 𝕄) := fun K => by
    unfold recs; rw [bigSep_sep']
  have hG : ∀ c : Dev nD, iprop(bigSep Finset.univ (fun o : Option Key => atPos ER (cell c o) 0 ∅ 0)
      ∗ bigSep Finset.univ (fun k : Key => tk c k) ∗ tokB (dst 1 c) 0 ∗ tokB (dst 0 c) 1) ⊢ (ghostIn c : sProp 𝕄) := fun c => by
    unfold ghostIn posB pos
    rw [split_option]
    iintro ⟨⟨Hp, Hb⟩, Ht, H1, H0⟩
    isplitl [Hb H1 H0]
    · isplitl [H0]; · iexact H0
      isplitl [H1]; · iexact H1
      iexact Hb
    isplitl [Hp]; · iexact Hp
    iexact Ht
  have hA : iprop(bigSep Finset.univ (fun c : Dev nD => bigSep Finset.univ (fun o : Option Key => atPos ER (cell c o) 0 ∅ 0))
      ∗ bigSep Finset.univ (fun c : Dev nD => iprop(bigSep Finset.univ (fun k : Key => tk c k) ∗ tokB (dst 1 c) 0 ∗ tokB (dst 0 c) 1)))
      ⊢ (bigSep Finset.univ (fun c : Dev nD => ghostIn c) : sProp 𝕄) := by
    rw [← bigSep_sep']; exact bigSep_mono fun c _ => hG c
  have hE : ∀ K : Dev nD × Option Key → ℕ, iprop(recs X K ∗ bigSep Finset.univ (fun c : Dev nD => ghostIn c))
      ⊢ (bigSep Finset.univ (given X) : sProp 𝕄) := fun K => by
    refine (sep_mono_left (BI.bigSep_of_persistent (Finset.univ : Finset (Dev nD)) (recs X K))).trans ?_
    rw [← bigSep_sep']
    refine bigSep_mono fun c _ => ?_
    unfold given
    exact sep_mono_left (exists_intro (Φ := fun K => recs X K) K)
  iintro ⟨HI, ⟨Hat, HR⟩, Ht⟩
  ihave HK := hK $$ HI
  icases HK with ⟨%K, HI⟩
  iapply (hE K)
  isplitl [HI HR]
  · iapply (hR K); isplitl [HI] <;> iassumption
  · iapply hA; isplitl [Hat] <;> iassumption

/-- The global step. -/
theorem glob : bigSep Finset.univ (fun c => iprop(Pipeline.ownSems0 osem c ∗ unscopedSems0 c ∗ deal X c))
    ⊢ (|={Set.univ}=> bigSep Finset.univ (given X) : sProp 𝕄) :=
  ((bigSep_mono fun c _ => share_cells X c).trans (bigSep_fupd _ _)).trans (BI.fupd_mono (deal_out X))

/-! ## Credits -/

theorem creds_owe (c : Dev nD) : ∀ l : List (Fin 6 × Lane),
    Pipeline.launchCred (fun d => owe d l) c ⊢ (bigSepL l (fun p => crd c (kRecv p.1 p.2)) : sProp 𝕄)
  | [] => Entails.of_eq (Pipeline.launchCred_zero c)
  | p :: l => by
    rw [bigSepL_cons]
    refine (Entails.of_eq (Pipeline.launchCred_add (fun d => owe d l) (fun d => tallyAt (cell (dst p.2.2 d) (some (kRecv p.1 p.2))) () N) c)).trans ?_
    exact BIBase.Entails.trans BI.sep_comm (BI.sep_mono (Pipeline.launchCred_tallyAt (semOf (some (kRecv p.1 p.2))) (dst p.2.2) (src p.2.2) (dst_src p.2.2) (src_dst p.2.2) () N c)
      (creds_owe c l))

/-- The credits the launch deals a device. -/
theorem creds (c : Dev nD) : Pipeline.launchCred O₀ c ⊢ (credIn c : sProp 𝕄) := by
  have e : (O₀ : Dev nD → CellTallies nD τ sig Unit)
      = fun d => (owe d allDues + tallyAt (cell (dst 1 d) none) () 1) + tallyAt (cell (dst 0 d) none) () 1 := rfl
  rw [e, Pipeline.launchCred_add (fun d => owe d allDues + tallyAt (cell (dst 1 d) none) () 1) (fun d => tallyAt (cell (dst 0 d) none) () 1),
    Pipeline.launchCred_add (fun d => owe d allDues) (fun d => tallyAt (cell (dst 1 d) none) () 1)]
  have hl := creds_owe (F := F) c allDues
  have h1 := Pipeline.launchCred_tallyAt (nD := nD) (τ := τ) (Val := Elt F) (Name := ℕ) (U := UU) (Lvl := ℕ) (semOf none) (dst 1) (src 1) (dst_src 1) (src_dst 1) () 1 c
  have h0 := Pipeline.launchCred_tallyAt (nD := nD) (τ := τ) (Val := Elt F) (Name := ℕ) (U := UU) (Lvl := ℕ) (semOf none) (dst 0) (src 0) (dst_src 0) (src_dst 0) () 1 c
  have h2 : iprop(cred (tallyAt (cell c none) () 1) ∗ cred (tallyAt (cell c none) () 1)) ⊢ (crdB c : sProp 𝕄) := by
    unfold crdB
    refine (cred_add _ _).2.trans (Entails.of_eq (congrArg cred ?_))
    exact tallyAt_add (cell c none) () 1 1
  unfold credIn
  rw [bigSep_univ_eq_bigSepL allDues (by decide) (by decide) (fun p : Fin 6 × Lane => (crd c (kRecv p.1 p.2) : sProp 𝕄))]
  iintro ⟨⟨Hl, H1⟩, H0⟩
  isplitl [H1 H0]
  · iapply h2
    isplitl [H1]
    · iapply h1; iexact H1
    · iapply h0; iexact H0
  · iapply hl; iexact Hl

end Cert.KernelIdeal.Hop

end
-- ==== Proof.ProgEq.lean ====
/-
  The printed body is the looped body.
-/
module

public import proofs.«01_k».proof.Proof.Prog

@[expose] public section

set_option maxRecDepth 65536

noncomputable section

namespace Cert.KernelIdeal.Hop

open Idealize.ShloMosaic Idealize.ShloMosaic.TcCoe Idealize.SL.Sem
open Cert.KernelIdeal Cert.KernelIdeal.Gen

variable {F : FTy → Type} [FloatOps F]

/-- The printed body is the looped body, run at the device's own id. -/
theorem body_eq (t : Fin cfg0.N) : (bodyAt0 t : Pg F PUnit) = Prog.lift .deviceId >>= fun c => nice c := by
  chain_rfl

end Cert.KernelIdeal.Hop
-- ==== Proof.Launch.lean ====
/-
  The run of all devices from the launch.
-/
module

public import proofs.«01_k».proof.Proof.Ghost
public import proofs.«01_k».proof.Proof.ProgEq
public import Idealize.ShloMosaic.Lib.Pipeline.CollectiveSegs

@[expose] public section

set_option maxRecDepth 65536

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Arr F)

/-- What a device holds before its body. -/
def atStart (c : Dev nD) : sProp 𝕄 := iprop(given X c ∗ levAts L lv ∗ credIn c ∗ memIn X c)
/-- What it holds after. -/
def atEnd (c : Dev nD) : sProp 𝕄 :=
  iprop((zedB c ∗ xW c (X c) ∗ oW c (acc X 3)) ∗ bigSep Finset.univ (fun k : Key => zed c k) ∗ (∃ f, bW c f) ∗ ∃ f, sW c f)

/-- The proof data of the one region: no window, one point. -/
def dats (_ : Fin 1) (c : Dev nD) : Pipeline.Dat τ (Elt F) Unit ℕ UU ℕ cfg0 c where
  A w := w.elim0
  after w := w.elim0
  Φ t := match t with
    | ⟨0, _⟩ => atStart X c
    | ⟨_ + 1, _⟩ => atEnd X c
  q _ := fullShare
  owed t := match t with
    | ⟨0, _⟩ => O₀ c
    | ⟨_ + 1, _⟩ => 0

/-- The body, from start to end. -/
theorem wp_body (c : Dev nD) (W : Waits sig Unit) :
    iprop(atStart X c ∗ owes (c : Thread nD τ) (O₀ c) W) ⊢ WP c (bodyAt0 t0_0) (fun _ => iprop(atEnd X c ∗ ows c [])) := by
  have hd : WP c (Prog.op TpuEff.deviceId fun c => nice c) (fun _ => iprop(atEnd X c ∗ ows c [])) = WP c (nice c) (fun _ => iprop(atEnd X c ∗ ows c [])) :=
    wp_deviceId 𝒱₀ (c : Thread nD τ) none Set.univ (Γ := .empty)
  rw [body_eq, Prog.bind_lift, hd]
  have hn : ∀ K, _ := fun K => wp_nice X K c (W := W) (fun _ => (Prog.ret PUnit.unit : Pg F PUnit)) (fun _ => iprop(atEnd X c ∗ ows c []))
  have hm := mem_out X c (fun _ => X c fun a => ⟨0, by fin_cases a <;> exact Nat.succ_pos _⟩)
  have hr : (nice c >>= fun _ => (Prog.ret PUnit.unit : Pg F PUnit)) = nice c := Prog.bind_pure _
  rw [hr] at hn
  have hret : iprop(atEnd X c ∗ ows c []) ⊢ WP c (Prog.ret PUnit.unit) (fun _ => iprop(atEnd X c ∗ ows c [])) := by
    show _ ⊢ iprop(|={Set.univ}=> (atEnd X c ∗ ows c []))
    exact fupd_intro
  unfold atStart given
  iintro ⟨⟨⟨⟨%K, HR⟩, HG⟩, HL, HC, HM⟩, HO⟩
  iapply (hn K) $$ [HR HG HL HC HM HO]
  · unfold ctx
    isplitl [HR HL]
    · isplitl [HR] <;> iassumption
    isplitl [HO]; · iexact HO
    isplitl [HG]; · iexact HG
    isplitl [HC] <;> iassumption
  iintro ⟨HO, HB, HZ, HM⟩
  ihave HM := hm $$ HM
  icases HM with ⟨Hx, Ho, Hb, Hs⟩
  iapply hret
  isplitr [HO]
  · unfold atEnd
    isplitl [HB Hx Ho]
    · isplitl [HB]; · iexact HB
      isplitl [Hx] <;> iassumption
    isplitl [HZ]; · iexact HZ
    isplitl [Hb]
    · iexists _; iexact Hb
    · iexact Hs
  · iexact HO

theorem body_obligation (c : Dev nD) : Pipeline.BodyObligation (dats X 0 c) (defs₀ (F := F)) 𝒱₀ () Set.univ := fun t => by
  rw [fin_N0 t]
  have hb := fun W => wp_body X c W
  have hw : ∀ Φ : Fin cfg0.W → sProp 𝕄, bigSep Finset.univ Φ = iprop(emp) := fun Φ => by
    rw [show (Finset.univ : Finset (Fin cfg0.W)) = ∅ from rfl]; exact BI.bigSep_empty
  rw [hw, hw]
  show iprop(atStart X c ∗ (dats X 0 c).owesAt () t0_0.castSucc ∗ emp)
    ⊢ WP c (bodyAt0 t0_0) (fun _ => iprop(atEnd X c ∗ (dats X 0 c).owesAt () t0_0.succ ∗ emp))
  have hq : ∀ _ : PUnit, iprop(atEnd X c ∗ ows c []) ⊢ iprop(atEnd X c ∗ (dats X 0 c).owesAt () t0_0.succ ∗ emp) := fun _ => by
    unfold ows Pipeline.Dat.owesAt Pipeline.owesWithin
    rw [show (dats X 0 c).owed t0_0.succ = owe c [] from rfl]
    iintro ⟨HE, %W, HO⟩
    isplitl [HE]; · iexact HE
    isplitl
    · iexists W
      isplitr
      · ipureintro; exact fun _ _ => Or.inl trivial
      · iexact HO
    · iempintro
  unfold Pipeline.Dat.owesAt Pipeline.owesWithin
  rw [show (dats X 0 c).owed t0_0.castSucc = O₀ c from rfl]
  iintro ⟨HS, ⟨%W, -, HO⟩, -⟩
  have hf : WP c (bodyAt0 t0_0) (fun _ => iprop(atEnd X c ∗ ows c [])) ⊢ WP c (bodyAt0 t0_0) (fun _ => iprop(atEnd X c ∗ (dats X 0 c).owesAt () t0_0.succ ∗ emp)) :=
    wp_mono _ _ _ hq
  iapply hf
  iapply (hb W)
  isplitl [HS] <;> iassumption

/-! ## The side conditions -/

variable (m : (ℓ : Loc nD τ sig) → Buf (Elt F) ℓ) (ρ : Dev nD → PrngReg)

/-- The devices' inputs in a memory. -/
def argOf : Dev nD → Arr F := fun c => m ((c : Thread nD τ).loc main_arg0)

/-- What a device holds between the launch and its region. -/
def start (c : Dev nD) : sProp 𝕄 :=
  iprop((given (argOf m) c ∗ levAts L lv ∗ credIn c) ∗ xW c (argOf m c) ∗ ∃ f, oW c f)
/-- What is left of it after. -/
def rest (c : Dev nD) : sProp 𝕄 := iprop(zedB c ∗ xW c (argOf m c) ∗ oW c (acc (argOf m) 3))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ given (argOf m) c)
      ⊢ |={Set.univ}=> iprop(start m c ∗ emp) := by
  have hu : (Pipeline.unscopedRestP Pipeline.Prefetch.none cfg0.spec c (fun b => m ((c : Thread nD τ).loc b)) : sProp 𝕄)
      ⊢ iprop(xW c (argOf m c) ∗ oW c (m ((c : Thread nD τ).loc main_v1))) := by
    rw [Pipeline.unscopedRestP_none, unscopedRest0_eq]
    exact .rfl
  have hc := creds (F := F) c
  iintro ⟨Hu, HL, HC, -, HG⟩
  ihave Hu := hu $$ Hu
  icases Hu with ⟨Hx, Ho⟩
  ihave HC := hc $$ HC
  imodintro
  unfold start
  isplitl
  · isplitl [HL HC HG]
    · isplitl [HG]; · iexact HG
      isplitl [HL] <;> iassumption
    isplitl [Hx]; · iexact Hx
    iexists _; iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats (argOf m) 0 c).Φ 0 := by
  rw [show (dats (argOf m) 0 c).Φ 0 = atStart (argOf m) c from rfl, scopedRest0_eq]
  have hm := fun fo fb fs => mem_in (argOf m) c fo fb fs
  have hb : ∀ f : Arr F, (((c : Thread nD τ).loc cc0_scratch0 ↦{fullShare} f) : sProp 𝕄) ⊢ bW c f := fun f => .rfl
  have hs : ∀ f : Stg F, (((c : Thread nD τ).loc cc0_scratch1 ↦{fullShare} f) : sProp 𝕄) ⊢ sW c f := fun f => .rfl
  unfold atStart start
  iintro ⟨⟨⟨HG, HL, HC⟩, Hx, ⟨%fo, Ho⟩⟩, -, ⟨%fb, Hb⟩, ⟨%fs, Hs⟩⟩
  isplitl [HG]; · iexact HG
  isplitl [HL]; · iexact HL
  isplitl [HC]; · iexact HC
  iapply (hm fo fb fs)
  isplitl [Hx]; · iexact Hx
  isplitl [Ho]; · iexact Ho
  isplitl [Hb]
  · iapply (hb fb); iexact Hb
  · iapply (hs fs); iexact Hs

theorem phi1_exit (c : Dev nD) :
    (dats (argOf m) 0 c).Φ (Fin.last cfg0.N) ⊢ iprop(rest m c ∗ Pipeline.ownSems0 osem c ∗ Pipeline.scopedRest cfg0.spec c) := by
  rw [show (dats (argOf m) 0 c).Φ (Fin.last cfg0.N) = atEnd (argOf m) c from rfl, scopedRest0_eq, ownSems_eq]
  exact .rfl

/-- The final state of a device. -/
def EndsAt (c : Dev nD) (s : MemSt nD τ sig (Elt F)) : Prop :=
  (s.mem ((c : Thread nD τ).loc main_arg0) = argOf m c ∧ s.mem ((c : Thread nD τ).loc main_v1) = acc (argOf m) 3)
    ∧ ∀ sm : SemLoc sig, sm.isScoped .tc = false → s.sem ((c.tc : Thread nD τ), sm) = 0

theorem read_end (c : Dev nD) (s' : Phys nD τ sig (Elt F)) :
    iprop(rest m c ∗ emp ∗ SI s') ⊢ (|={Set.univ}=> iprop(⌜EndsAt m c s'.mem⌝ ∗ SI s') : sProp 𝕄) := by
  have hx : iprop(SI s' ∗ xW c (argOf m c)) ⊢ (⌜∀ i ∈ Finset.univ, s'.mem.mem ((c : Thread nD τ).loc main_arg0) i = argOf m c i⌝ : sProp 𝕄) :=
    SI_pointsTo_agree
  have ho : iprop(SI s' ∗ oW c (acc (argOf m) 3)) ⊢ (⌜∀ i ∈ Finset.univ, s'.mem.mem ((c : Thread nD τ).loc main_v1) i = acc (argOf m) 3 i⌝ : sProp 𝕄) :=
    SI_pointsTo_agree
  have hs := Pipeline.unscopedSems0_read (X := (unscopedSems0 c : sProp 𝕄)) (c := c) fupd_intro s'
  rw [unscoped_eq] at hs
  unfold rest
  iintro ⟨⟨HB, Hx, Ho⟩, -, HSI⟩
  ihave H := (persistent_entails_right hx) $$ [HSI Hx]
  · isplitl [HSI] <;> iassumption
  icases H with ⟨%h1, HSI, -⟩
  ihave H := (persistent_entails_right ho) $$ [HSI Ho]
  · isplitl [HSI] <;> iassumption
  icases H with ⟨%h2, HSI, -⟩
  imod hs $$ [HB HSI] with ⟨%h3, HSI⟩
  · isplitl [HB] <;> iassumption
  imodintro
  isplitr
  · ipureintro
    exact ⟨⟨funext fun i => h1 i (Finset.mem_univ i), funext fun i => h2 i (Finset.mem_univ i)⟩, h3⟩
  · iexact HSI

/-- Every run from zero counters ends; the input is kept, the result is the reduced array on every device and every counter is zero. -/
theorem run_main : θ_run defs (onTc (τ := τ) (main (F := F))) ⟨m, fun _ => 0, ρ⟩
    (fun r => (∀ c : Dev nD, r.2.mem ((c : Thread nD τ).loc main_arg0) = argOf m c ∧ r.2.mem ((c : Thread nD τ).loc main_v1) = acc (argOf m) 3)
      ∧ r.2.sem = fun _ => 0) :=
  Pipeline.θ_run_region_owing_glob_pf (fun p => (cfgs p).toPCfg) (fun p => (cfgs p).toPCfg_adm) (dats (argOf m)) () cellOf_inj (0 : Fin 1)
    winFacts0.to₀ ownSemFacts (Pipeline.PreFacts.none _) EP defs₀ 𝒱₀ m ρ main
    (hmain := fun _ => rfl)
    (hbody := body_obligation (argOf m)) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats (argOf m)) () 0 c fun w s t => w.elim0)
    (G := deal (argOf m)) (G' := given (argOf m)) (u₀ := u₀)
    (hu₀ := by
      unfold u₀
      iintro Hu
      ihave H := (ownU_pair _ _) $$ Hu
      icases H with ⟨HP, HX⟩
      imod (fund_all (argOf m)) $$ HX with HG
      imodintro
      isplitl [HP] <;> iassumption)
    (hglob := glob (argOf m))
    (hA := fun _ w => w.elim0) (hpf := fun _ k => k.elim0)
    (X := start m) (Y := rest m) (Z := fun _ => iprop(emp))
    (hX := start_intro m ρ) (hin := phi0_intro m) (hout := phi1_exit m)
    (QY := EndsAt m) (hY := read_end m)
    (hQ := fun _ h hs => ⟨fun c => (h c).2.2.1, sem_eq_zero hs fun c => (h c).2.2.2⟩)

end Cert.KernelIdeal.Hop

end
-- ==== Proof.Value.lean ====
/-
  The value: over the extended reals the four summands, added in the order the ring visits the
  devices, make the sum the reference takes over the leading axis.
-/
module

public import proofs.«01_k».proof.Proof.Rings
public import proofs.«01_k».proof.Proof.Gen.ReferenceIdeal
public import proofs.«01_k».proof.Proof.Gen.ReferenceIdeal.Run
public import Idealize.ShloMosaic.Lib.IdealHost
public import Idealize.ShloMosaic.Lib.Layout
public import Idealize.ShloMosaic.Lib.Pointwise.Reduce

@[expose] public section

set_option maxRecDepth 65536

noncomputable section

namespace Cert.KernelIdeal.Hop

open Idealize.ShloMosaic

/-- In either direction and from any start the four summands are those of all four devices. -/
theorem sum_ring (f : Fin 4 → EReal) (d : Fin 2) (k : Fin 4) :
    f k + f (hopDev d 1 k) + f (hopDev d 2 k) + f (hopDev d 3 k) = f 0 + f 1 + f 2 + f 3 := by
  fin_cases d <;> fin_cases k
  · show f 0 + f 1 + f 2 + f 3 = _; rfl
  · show f 1 + f 2 + f 3 + f 0 = _; ac_rfl
  · show f 2 + f 3 + f 0 + f 1 = _; ac_rfl
  · show f 3 + f 0 + f 1 + f 2 = _; ac_rfl
  · show f 0 + f 3 + f 2 + f 1 = _; ac_rfl
  · show f 1 + f 0 + f 3 + f 2 = _; ac_rfl
  · show f 2 + f 1 + f 0 + f 3 = _; ac_rfl
  · show f 3 + f 2 + f 1 + f 0 = _; ac_rfl

/-- The finished sums, at one index. -/
theorem acc_three (X : Dev nD → Arr Ideal) (i : S8192x1024.Idx) :
    acc X 3 i = ((X 0 i : EReal) + (X 1 i : EReal) + (X 2 i : EReal) + (X 3 i : EReal) : EReal) :=
  sum_ring (fun c => X c i) (dirOf i) (chunkOf i)

/-- The reshaped whole at leading coordinate `c` is block `c` of the whole. -/
theorem reshape_block (h : Layout.Tiles ⟨2, ![8192, 1024]⟩ ⟨2, ![32768, 1024]⟩ 0 4)
    (hs : (⟨2, ![32768, 1024]⟩ : Shape).ShapeCasts ⟨3, ![4, 8192, 1024]⟩)
    (c : Fin 4) (i : (⟨2, ![8192, 1024]⟩ : Shape).Idx) :
    Shape.reshapeEquiv hs (ix3 c (i 0) (i 1)) = h.idx c i := by
  have hv := Layout.idx_rows_val h c i
  have e₂ := Shape.rowMajor_val_two (d := ![32768, 1024]) (h.idx c i)
  have e₃ := Shape.rowMajor_val_three (d := ![4, 8192, 1024]) (ix3 c (i 0) (i 1))
  rw [hv.1, hv.2] at e₂
  exact Shape.reshapeEquiv_eq_of_rowMajor hs (e₂.trans e₃.symm)

/-- The finished sums are the reference's. -/
theorem value (X : Dev nD → Arr Ideal) (x : (⟨2, ![32768, 1024]⟩ : Shape).Idx → Ideal .f32)
    (hX : ∀ c : Dev nD, X c = Layout.block ⟨2, ![8192, 1024]⟩ ⟨2, ![32768, 1024]⟩ 0 4 c x) :
    acc X 3 = Host.reduceAdd (F := Ideal)
      (shapeCast Cert.ReferenceIdeal.S4x8192x1024 x Cert.ReferenceIdeal.Facts₀.shapeCasts_S32768x1024_S4x8192x1024)
      (constant Cert.ReferenceIdeal.S_ .f32 0x00000000#32)
      Cert.ReferenceIdeal.Facts₀.reducesTo_S4x8192x1024_S8192x1024_d0 Cert.ReferenceIdeal.Facts₀.h_S_ := by
  funext i
  rw [ValueIdx.hostReduceAdd_apply]
  refine (acc_three X i).trans (Eq.trans ?_ (Ideal.hostReduceAdd_r3_a0 _ _ _ i).symm)
  rw [Fin.sum_univ_four]
  have hz : (constant (F := Ideal) Cert.ReferenceIdeal.S_ .f32 0x00000000#32
      (Shape.Idx.first Cert.ReferenceIdeal.Facts₀.h_S_) : EReal) = 0 := Ideal.ofBits_zero_f32
  have hc : ∀ c : Fin 4, (X c i : EReal) = shapeCast Cert.ReferenceIdeal.S4x8192x1024 x
      Cert.ReferenceIdeal.Facts₀.shapeCasts_S32768x1024_S4x8192x1024 (ix3 c (i 0) (i 1)) := fun c =>
    (congrFun (hX c) i).trans (congrArg x (reshape_block _ _ c i).symm)
  rw [hc 0, hc 1, hc 2, hc 3]
  refine Eq.trans (zero_add _).symm ?_
  exact congrArg₂ (· + ·) hz.symm rfl

end Cert.KernelIdeal.Hop

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's run keeps every device's input and ends with every counter at zero. -/
theorem frame_kernel : Cert.quiescent_Kernel := fun m ρ _ =>
  (θ_run Cert.KernelIdeal.defs _ _).mono (fun _ h => ⟨fun c => (h.1 c).1, h.2⟩) (Cert.KernelIdeal.Hop.run_main (F := Bits) m ρ)

/-- The same over the extended reals. -/
theorem frame_kernelIdeal : Cert.quiescent_KernelIdeal := fun m ρ _ =>
  (θ_run Cert.KernelIdeal.defs _ _).mono (fun _ h => ⟨fun c => (h.1 c).1, h.2⟩) (Cert.KernelIdeal.Hop.run_main (F := Ideal) m ρ)

/-- The reference is a straight-line host program with no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Every device ends with the sum of all four blocks, which is the reference's result. -/
theorem algebraic : Cert.algebraic_KernelIdeal_ReferenceIdeal := fun m g m' g' _ hag =>
  ⟨Cert.KernelIdeal.Hop.acc (Cert.KernelIdeal.Hop.argOf m) 3,
    (θ_run Cert.KernelIdeal.defs _ _).mono (fun _ h c => ⟨(h.1 c).2, (h.1 c).1⟩)
      (Cert.KernelIdeal.Hop.run_main (F := Ideal) m g),
    (θ_run Cert.ReferenceIdeal.defs _ _).mono
      (fun _ h => ⟨(h 0).1.trans (Cert.KernelIdeal.Hop.value (Cert.KernelIdeal.Hop.argOf m) _ hag).symm, (h 0).2⟩)
      (Cert.ReferenceIdeal.Value.run (F := Ideal) m' g')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
